-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024 : Shape := ⟨2, ![8, 1024]⟩
abbrev S100000x1024 : Shape := ⟨2, ![100000, 1024]⟩
abbrev S100000 : Shape := ⟨1, ![100000]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S100000x1024 : S_.BroadcastsInDim S100000x1024 (![] : Fin 0 → Fin S100000x1024.rank)
  reducesTo_S100000x1024_S_d0_1 : S100000x1024.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S8x1024 .f32) (main_arg1 : FVec F S100000x1024 .f32) (main_arg2 : FVec F S100000 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S100000x1024 .f32 := Host.absf main_arg1
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S8x1024 : Shape := ⟨2, ![8, 1024]⟩
abbrev S100000x1024 : Shape := ⟨2, ![100000, 1024]⟩
abbrev S100000 : Shape := ⟨1, ![100000]⟩
abbrev S_ : Shape := ⟨0, ![]⟩
abbrev S1 : Shape := ⟨1, ![1]⟩
abbrev S2 : Shape := ⟨1, ![2]⟩
abbrev S1x1 : Shape := ⟨2, ![1, 1]⟩
abbrev S8x100000 : Shape := ⟨2, ![8, 100000]⟩
abbrev S100000x8 : Shape := ⟨2, ![100000, 8]⟩
abbrev S100000x1 : Shape := ⟨2, ![100000, 1]⟩
abbrev S1024x8 : Shape := ⟨2, ![1024, 8]⟩
abbrev S1x8 : Shape := ⟨2, ![1, 8]⟩
abbrev S8x1 : Shape := ⟨2, ![8, 1]⟩
abbrev S2000x1024 : Shape := ⟨2, ![2000, 1024]⟩
abbrev S2000x8 : Shape := ⟨2, ![2000, 8]⟩
abbrev S8 : Shape := ⟨1, ![8]⟩

abbrev nBuf : Space → Nat
  | .hbm => 288
  | .vmem => 7
  | .smem => 0
  | _ => 0

abbrev hbmTy0_0 (i : Nat) : BufTy := match i % 128 with
  | 0 => ⟨S8x1024, .f32⟩
  | 1 => ⟨S100000x1024, .f32⟩
  | 2 => ⟨S100000, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S8x100000, .i64⟩
  | 23 => ⟨S8x100000, .i64⟩
  | 24 => ⟨S_, .i64⟩
  | 25 => ⟨S8x100000, .i64⟩
  | 26 => ⟨S8x100000, .i64⟩
  | 27 => ⟨S_, .i64⟩
  | 28 => ⟨S8x100000, .i64⟩
  | 29 => ⟨S8x100000, .i64⟩
  | 30 => ⟨S8x100000, .i64⟩
  | 31 => ⟨S_, .i64⟩
  | 32 => ⟨S8x100000, .i64⟩
  | 33 => ⟨S8x100000, .i64⟩
  | 34 => ⟨S8x100000, .i32⟩
  | 35 => ⟨S8x100000, .i32⟩
  | 36 => ⟨S_, .i32⟩
  | 37 => ⟨S_, .i32⟩
  | 38 => ⟨S_, .i32⟩
  | 39 => ⟨S8x100000, .i32⟩
  | 40 => ⟨S8x100000, .i32⟩
  | 41 => ⟨S8x100000, .i32⟩
  | 42 => ⟨S8x100000, .i32⟩
  | 43 => ⟨S8x100000, .i32⟩
  | 44 => ⟨S_, .i32⟩
  | 45 => ⟨S8x100000, .i32⟩
  | 46 => ⟨S8x100000, .i32⟩
  | 47 => ⟨S_, .i32⟩
  | 48 => ⟨S8x100000, .i32⟩
  | 49 => ⟨S8x100000, .i32⟩
  | 50 => ⟨S8x100000, .i32⟩
  | 51 => ⟨S8x100000, .i32⟩
  | 52 => ⟨S8x100000, .i32⟩
  | 53 => ⟨S_, .i32⟩
  | 54 => ⟨S8x100000, .i32⟩
  | 55 => ⟨S8x100000, .i32⟩
  | 56 => ⟨S_, .i32⟩
  | 57 => ⟨S8x100000, .i32⟩
  | 58 => ⟨S8x100000, .i32⟩
  | 59 => ⟨S8x100000, .i32⟩
  | 60 => ⟨S8x100000, .i32⟩
  | 61 => ⟨S8x100000, .i32⟩
  | 62 => ⟨S_, .i32⟩
  | 63 => ⟨S8x100000, .i32⟩
  | 64 => ⟨S8x100000, .i32⟩
  | 65 => ⟨S_, .i32⟩
  | 66 => ⟨S8x100000, .i32⟩
  | 67 => ⟨S8x100000, .i32⟩
  | 68 => ⟨S8x100000, .i32⟩
  | 69 => ⟨S8x100000, .i32⟩
  | 70 => ⟨S8x100000, .i32⟩
  | 71 => ⟨S_, .i32⟩
  | 72 => ⟨S8x100000, .i32⟩
  | 73 => ⟨S8x100000, .i32⟩
  | 74 => ⟨S_, .i32⟩
  | 75 => ⟨S8x100000, .i32⟩
  | 76 => ⟨S8x100000, .i32⟩
  | 77 => ⟨S8x100000, .i32⟩
  | 78 => ⟨S8x100000, .i32⟩
  | 79 => ⟨S8x100000, .i32⟩
  | 80 => ⟨S8x100000, .i32⟩
  | 81 => ⟨S8x100000, .i32⟩
  | 82 => ⟨S8x100000, .i32⟩
  | 83 => ⟨S_, .i32⟩
  | 84 => ⟨S8x100000, .i32⟩
  | 85 => ⟨S8x100000, .i32⟩
  | 86 => ⟨S8x100000, .i32⟩
  | 87 => ⟨S_, .i32⟩
  | 88 => ⟨S8x100000, .i32⟩
  | 89 => ⟨S8x100000, .i32⟩
  | 90 => ⟨S_, .i32⟩
  | 91 => ⟨S8x100000, .i32⟩
  | 92 => ⟨S8x100000, .i32⟩
  | 93 => ⟨S8x100000, .i32⟩
  | 94 => ⟨S8x100000, .i32⟩
  | 95 => ⟨S8x100000, .i32⟩
  | 96 => ⟨S_, .i32⟩
  | 97 => ⟨S8x100000, .i32⟩
  | 98 => ⟨S8x100000, .i32⟩
  | 99 => ⟨S_, .i32⟩
  | 100 => ⟨S8x100000, .i32⟩
  | 101 => ⟨S8x100000, .i32⟩
  | 102 => ⟨S8x100000, .i32⟩
  | 103 => ⟨S8x100000, .i32⟩
  | 104 => ⟨S8x100000, .i32⟩
  | 105 => ⟨S_, .i32⟩
  | 106 => ⟨S8x100000, .i32⟩
  | 107 => ⟨S8x100000, .i32⟩
  | 108 => ⟨S_, .i32⟩
  | 109 => ⟨S8x100000, .i32⟩
  | 110 => ⟨S8x100000, .i32⟩
  | 111 => ⟨S8x100000, .i32⟩
  | 112 => ⟨S8x100000, .i32⟩
  | 113 => ⟨S8x100000, .i32⟩
  | 114 => ⟨S_, .i32⟩
  | 115 => ⟨S8x100000, .i32⟩
  | 116 => ⟨S8x100000, .i32⟩
  | 117 => ⟨S_, .i32⟩
  | 118 => ⟨S8x100000, .i32⟩
  | 119 => ⟨S8x100000, .i32⟩
  | 120 => ⟨S8x100000, .i32⟩
  | 121 => ⟨S8x100000, .i32⟩
  | 122 => ⟨S8x100000, .i32⟩
  | 123 => ⟨S8x100000, .i32⟩
  | 124 => ⟨S8x100000, .i32⟩
  | 125 => ⟨S8x100000, .i32⟩
  | 126 => ⟨S_, .i32⟩
  | 127 => ⟨S8x100000, .i32⟩
  | _ => ⟨S8x1024, .f32⟩

abbrev hbmTy0_1 (i : Nat) : BufTy := match i % 128 with
  | 0 => ⟨S8x100000, .i32⟩
  | 1 => ⟨S8x100000, .i32⟩
  | 2 => ⟨S_, .i32⟩
  | 3 => ⟨S8x100000, .i32⟩
  | 4 => ⟨S8x100000, .i32⟩
  | 5 => ⟨S_, .i32⟩
  | 6 => ⟨S8x100000, .i32⟩
  | 7 => ⟨S8x100000, .i32⟩
  | 8 => ⟨S8x100000, .i32⟩
  | 9 => ⟨S8x100000, .i32⟩
  | 10 => ⟨S8x100000, .i32⟩
  | 11 => ⟨S_, .i32⟩
  | 12 => ⟨S8x100000, .i32⟩
  | 13 => ⟨S8x100000, .i32⟩
  | 14 => ⟨S_, .i32⟩
  | 15 => ⟨S8x100000, .i32⟩
  | 16 => ⟨S8x100000, .i32⟩
  | 17 => ⟨S8x100000, .i32⟩
  | 18 => ⟨S8x100000, .i32⟩
  | 19 => ⟨S8x100000, .i32⟩
  | 20 => ⟨S_, .i32⟩
  | 21 => ⟨S8x100000, .i32⟩
  | 22 => ⟨S8x100000, .i32⟩
  | 23 => ⟨S_, .i32⟩
  | 24 => ⟨S8x100000, .i32⟩
  | 25 => ⟨S8x100000, .i32⟩
  | 26 => ⟨S8x100000, .i32⟩
  | 27 => ⟨S8x100000, .i32⟩
  | 28 => ⟨S8x100000, .i32⟩
  | 29 => ⟨S_, .i32⟩
  | 30 => ⟨S8x100000, .i32⟩
  | 31 => ⟨S8x100000, .i32⟩
  | 32 => ⟨S_, .i32⟩
  | 33 => ⟨S8x100000, .i32⟩
  | 34 => ⟨S8x100000, .i32⟩
  | 35 => ⟨S8x100000, .i32⟩
  | 36 => ⟨S8x100000, .i32⟩
  | 37 => ⟨S8x100000, .i32⟩
  | 38 => ⟨S8x100000, .i32⟩
  | 39 => ⟨S8x100000, .i32⟩
  | 40 => ⟨S8x100000, .i32⟩
  | 41 => ⟨S_, .i32⟩
  | 42 => ⟨S8x100000, .i32⟩
  | 43 => ⟨S8x100000, .i32⟩
  | 44 => ⟨S8x100000, .i32⟩
  | 45 => ⟨S_, .i32⟩
  | 46 => ⟨S8x100000, .i32⟩
  | 47 => ⟨S8x100000, .i32⟩
  | 48 => ⟨S_, .i32⟩
  | 49 => ⟨S8x100000, .i32⟩
  | 50 => ⟨S8x100000, .i32⟩
  | 51 => ⟨S8x100000, .i32⟩
  | 52 => ⟨S8x100000, .i32⟩
  | 53 => ⟨S8x100000, .i32⟩
  | 54 => ⟨S_, .i32⟩
  | 55 => ⟨S8x100000, .i32⟩
  | 56 => ⟨S8x100000, .i32⟩
  | 57 => ⟨S_, .i32⟩
  | 58 => ⟨S8x100000, .i32⟩
  | 59 => ⟨S8x100000, .i32⟩
  | 60 => ⟨S8x100000, .i32⟩
  | 61 => ⟨S8x100000, .i32⟩
  | 62 => ⟨S8x100000, .i32⟩
  | 63 => ⟨S_, .i32⟩
  | 64 => ⟨S8x100000, .i32⟩
  | 65 => ⟨S8x100000, .i32⟩
  | 66 => ⟨S_, .i32⟩
  | 67 => ⟨S8x100000, .i32⟩
  | 68 => ⟨S8x100000, .i32⟩
  | 69 => ⟨S8x100000, .i32⟩
  | 70 => ⟨S8x100000, .i32⟩
  | 71 => ⟨S8x100000, .i32⟩
  | 72 => ⟨S_, .i32⟩
  | 73 => ⟨S8x100000, .i32⟩
  | 74 => ⟨S8x100000, .i32⟩
  | 75 => ⟨S_, .i32⟩
  | 76 => ⟨S8x100000, .i32⟩
  | 77 => ⟨S8x100000, .i32⟩
  | 78 => ⟨S8x100000, .i32⟩
  | 79 => ⟨S8x100000, .i32⟩
  | 80 => ⟨S8x100000, .i32⟩
  | 81 => ⟨S8x100000, .i32⟩
  | 82 => ⟨S8x100000, .i32⟩
  | 83 => ⟨S8x100000, .i32⟩
  | 84 => ⟨S_, .i32⟩
  | 85 => ⟨S8x100000, .i32⟩
  | 86 => ⟨S8x100000, .i32⟩
  | 87 => ⟨S8x100000, .i32⟩
  | 88 => ⟨S_, .i32⟩
  | 89 => ⟨S8x100000, .i32⟩
  | 90 => ⟨S8x100000, .i32⟩
  | 91 => ⟨S_, .i32⟩
  | 92 => ⟨S8x100000, .i32⟩
  | 93 => ⟨S8x100000, .i32⟩
  | 94 => ⟨S8x100000, .i32⟩
  | 95 => ⟨S8x100000, .i32⟩
  | 96 => ⟨S8x100000, .i32⟩
  | 97 => ⟨S_, .i32⟩
  | 98 => ⟨S8x100000, .i32⟩
  | 99 => ⟨S8x100000, .i32⟩
  | 100 => ⟨S_, .i32⟩
  | 101 => ⟨S8x100000, .i32⟩
  | 102 => ⟨S8x100000, .i32⟩
  | 103 => ⟨S8x100000, .i32⟩
  | 104 => ⟨S8x100000, .i32⟩
  | 105 => ⟨S8x100000, .i32⟩
  | 106 => ⟨S_, .i32⟩
  | 107 => ⟨S8x100000, .i32⟩
  | 108 => ⟨S8x100000, .i32⟩
  | 109 => ⟨S_, .i32⟩
  | 110 => ⟨S8x100000, .i32⟩
  | 111 => ⟨S8x100000, .i32⟩
  | 112 => ⟨S8x100000, .i32⟩
  | 113 => ⟨S8x100000, .i32⟩
  | 114 => ⟨S8x100000, .i32⟩
  | 115 => ⟨S_, .i32⟩
  | 116 => ⟨S8x100000, .i32⟩
  | 117 => ⟨S8x100000, .i32⟩
  | 118 => ⟨S_, .i32⟩
  | 119 => ⟨S8x100000, .i32⟩
  | 120 => ⟨S8x100000, .i32⟩
  | 121 => ⟨S8x100000, .i32⟩
  | 122 => ⟨S8x100000, .i32⟩
  | 123 => ⟨S8x100000, .i32⟩
  | 124 => ⟨S8x100000, .i32⟩
  | 125 => ⟨S8x100000, .i32⟩
  | 126 => ⟨S8x100000, .i32⟩
  | 127 => ⟨S_, .i32⟩
  | _ => ⟨S8x1024, .f32⟩

abbrev hbmTy0_2 (i : Nat) : BufTy := match i % 128 with
  | 0 => ⟨S8x100000, .i32⟩
  | 1 => ⟨S8x100000, .i32⟩
  | 2 => ⟨S8x100000, .i32⟩
  | 3 => ⟨S_, .i32⟩
  | 4 => ⟨S8x100000, .i32⟩
  | 5 => ⟨S8x100000, .i32⟩
  | 6 => ⟨S_, .i32⟩
  | 7 => ⟨S8x100000, .i32⟩
  | 8 => ⟨S8x100000, .i32⟩
  | 9 => ⟨S8x100000, .f32⟩
  | 10 => ⟨S_, .f32⟩
  | 11 => ⟨S8x100000, .f32⟩
  | 12 => ⟨S8x100000, .f32⟩
  | 13 => ⟨S1x1, .f32⟩
  | 14 => ⟨S8x100000, .f32⟩
  | 15 => ⟨S8x100000, .f32⟩
  | 16 => ⟨S8x100000, .f32⟩
  | 17 => ⟨S8x100000, .f32⟩
  | 18 => ⟨S8x100000, .f32⟩
  | 19 => ⟨S8x100000, .f32⟩
  | 20 => ⟨S8x100000, .f32⟩
  | 21 => ⟨S8x100000, .f32⟩
  | 22 => ⟨S8x100000, .f32⟩
  | 23 => ⟨S8x100000, .f32⟩
  | 24 => ⟨S100000x8, .f32⟩
  | 25 => ⟨S100000x1, .f32⟩
  | 26 => ⟨S100000x8, .f32⟩
  | 27 => ⟨S100000x8, .f32⟩
  | 28 => ⟨S1024x8, .f32⟩
  | 29 => ⟨S1x8, .f32⟩
  | 30 => ⟨S1x8, .i32⟩
  | 31 => ⟨S8x1, .i32⟩
  | _ => ⟨S8x1024, .f32⟩

abbrev hbmTy (i : Nat) : BufTy := match i / 128 with
  | 0 => hbmTy0_0 i
  | 1 => hbmTy0_1 i
  | 2 => hbmTy0_2 i
  | _ => ⟨S8x1024, .f32⟩

abbrev bufTy : (tb : Table) → Fin (tcTables nBuf tb) → BufTy
  | .hbm, ⟨i, _⟩ => hbmTy i
  | .local _ .vmem, ⟨0, _⟩ => ⟨S2000x1024, .f32⟩
  | .local _ .vmem, ⟨1, _⟩ => ⟨S2000x1024, .f32⟩
  | .local _ .vmem, ⟨2, _⟩ => ⟨S1024x8, .f32⟩
  | .local _ .vmem, ⟨3, _⟩ => ⟨S2000x8, .f32⟩
  | .local _ .vmem, ⟨4, _⟩ => ⟨S2000x8, .f32⟩
  | .local _ .vmem, ⟨5, _⟩ => ⟨S1x8, .f32⟩
  | .local _ .vmem, ⟨6, _⟩ => ⟨S1x8, .i32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_c_1 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_call0_cst : Ref sig .tc := ⟨.hbm, 13, rfl⟩
abbrev main_call0_call0_cst_0 : Ref sig .tc := ⟨.hbm, 14, rfl⟩
abbrev main_call0_call0_call0_v0 : Ref sig .tc := ⟨.hbm, 15, rfl⟩
abbrev main_call0_call0_call0_v1 : Ref sig .tc := ⟨.hbm, 16, rfl⟩
abbrev main_call0_call0_call0_v2 : Ref sig .tc := ⟨.hbm, 17, rfl⟩
abbrev main_call0_call0_call0_v3 : Ref sig .tc := ⟨.hbm, 18, rfl⟩
abbrev main_call0_call0_call0_v4 : Ref sig .tc := ⟨.hbm, 19, rfl⟩
abbrev main_call0_call0_call0_v5 : Ref sig .tc := ⟨.hbm, 20, rfl⟩
abbrev main_call0_call0_call0_v6 : Ref sig .tc := ⟨.hbm, 21, rfl⟩
abbrev main_call0_call0_call0_v7 : Ref sig .tc := ⟨.hbm, 22, rfl⟩
abbrev main_call0_call0_call0_v8 : Ref sig .tc := ⟨.hbm, 23, rfl⟩
abbrev main_call0_call0_call0_c : Ref sig .tc := ⟨.hbm, 24, rfl⟩
abbrev main_call0_call0_call0_v9 : Ref sig .tc := ⟨.hbm, 25, rfl⟩
abbrev main_call0_call0_call0_v10 : Ref sig .tc := ⟨.hbm, 26, rfl⟩
abbrev main_call0_call0_call0_c_0 : Ref sig .tc := ⟨.hbm, 27, rfl⟩
abbrev main_call0_call0_call0_v11 : Ref sig .tc := ⟨.hbm, 28, rfl⟩
abbrev main_call0_call0_call0_v12 : Ref sig .tc := ⟨.hbm, 29, rfl⟩
abbrev main_call0_call0_call0_v13 : Ref sig .tc := ⟨.hbm, 30, rfl⟩
abbrev main_call0_call0_call0_c_1 : Ref sig .tc := ⟨.hbm, 31, rfl⟩
abbrev main_call0_call0_call0_v14 : Ref sig .tc := ⟨.hbm, 32, rfl⟩
abbrev main_call0_call0_call0_v15 : Ref sig .tc := ⟨.hbm, 33, rfl⟩
abbrev main_call0_call0_call0_v16 : Ref sig .tc := ⟨.hbm, 34, rfl⟩
abbrev main_call0_call0_call0_v17 : Ref sig .tc := ⟨.hbm, 35, rfl⟩
abbrev main_call0_call0_call0_call0_v0 : Ref sig .tc := ⟨.hbm, 36, rfl⟩
abbrev main_call0_call0_call0_call0_c : Ref sig .tc := ⟨.hbm, 37, rfl⟩
abbrev main_call0_call0_call0_call0_v1 : Ref sig .tc := ⟨.hbm, 38, rfl⟩
abbrev main_call0_call0_call0_call0_v2 : Ref sig .tc := ⟨.hbm, 39, rfl⟩
abbrev main_call0_call0_call0_call0_v3 : Ref sig .tc := ⟨.hbm, 40, rfl⟩
abbrev main_call0_call0_call0_call0_v4 : Ref sig .tc := ⟨.hbm, 41, rfl⟩
abbrev main_call0_call0_call0_call0_v5 : Ref sig .tc := ⟨.hbm, 42, rfl⟩
abbrev main_call0_call0_call0_call0_v6 : Ref sig .tc := ⟨.hbm, 43, rfl⟩
abbrev main_call0_call0_call0_call0_c_0 : Ref sig .tc := ⟨.hbm, 44, rfl⟩
abbrev main_call0_call0_call0_call0_v7 : Ref sig .tc := ⟨.hbm, 45, rfl⟩
abbrev main_call0_call0_call0_call0_v8 : Ref sig .tc := ⟨.hbm, 46, rfl⟩
abbrev main_call0_call0_call0_call0_c_1 : Ref sig .tc := ⟨.hbm, 47, rfl⟩
abbrev main_call0_call0_call0_call0_v9 : Ref sig .tc := ⟨.hbm, 48, rfl⟩
abbrev main_call0_call0_call0_call0_v10 : Ref sig .tc := ⟨.hbm, 49, rfl⟩
abbrev main_call0_call0_call0_call0_v11 : Ref sig .tc := ⟨.hbm, 50, rfl⟩
abbrev main_call0_call0_call0_call0_v12 : Ref sig .tc := ⟨.hbm, 51, rfl⟩
abbrev main_call0_call0_call0_call0_v13 : Ref sig .tc := ⟨.hbm, 52, rfl⟩
abbrev main_call0_call0_call0_call0_c_2 : Ref sig .tc := ⟨.hbm, 53, rfl⟩
abbrev main_call0_call0_call0_call0_v14 : Ref sig .tc := ⟨.hbm, 54, rfl⟩
abbrev main_call0_call0_call0_call0_v15 : Ref sig .tc := ⟨.hbm, 55, rfl⟩
abbrev main_call0_call0_call0_call0_c_3 : Ref sig .tc := ⟨.hbm, 56, rfl⟩
abbrev main_call0_call0_call0_call0_v16 : Ref sig .tc := ⟨.hbm, 57, rfl⟩
abbrev main_call0_call0_call0_call0_v17 : Ref sig .tc := ⟨.hbm, 58, rfl⟩
abbrev main_call0_call0_call0_call0_v18 : Ref sig .tc := ⟨.hbm, 59, rfl⟩
abbrev main_call0_call0_call0_call0_v19 : Ref sig .tc := ⟨.hbm, 60, rfl⟩
abbrev main_call0_call0_call0_call0_v20 : Ref sig .tc := ⟨.hbm, 61, rfl⟩
abbrev main_call0_call0_call0_call0_c_4 : Ref sig .tc := ⟨.hbm, 62, rfl⟩
abbrev main_call0_call0_call0_call0_v21 : Ref sig .tc := ⟨.hbm, 63, rfl⟩
abbrev main_call0_call0_call0_call0_v22 : Ref sig .tc := ⟨.hbm, 64, rfl⟩
abbrev main_call0_call0_call0_call0_c_5 : Ref sig .tc := ⟨.hbm, 65, rfl⟩
abbrev main_call0_call0_call0_call0_v23 : Ref sig .tc := ⟨.hbm, 66, rfl⟩
abbrev main_call0_call0_call0_call0_v24 : Ref sig .tc := ⟨.hbm, 67, rfl⟩
abbrev main_call0_call0_call0_call0_v25 : Ref sig .tc := ⟨.hbm, 68, rfl⟩
abbrev main_call0_call0_call0_call0_v26 : Ref sig .tc := ⟨.hbm, 69, rfl⟩
abbrev main_call0_call0_call0_call0_v27 : Ref sig .tc := ⟨.hbm, 70, rfl⟩
abbrev main_call0_call0_call0_call0_c_6 : Ref sig .tc := ⟨.hbm, 71, rfl⟩
abbrev main_call0_call0_call0_call0_v28 : Ref sig .tc := ⟨.hbm, 72, rfl⟩
abbrev main_call0_call0_call0_call0_v29 : Ref sig .tc := ⟨.hbm, 73, rfl⟩
abbrev main_call0_call0_call0_call0_c_7 : Ref sig .tc := ⟨.hbm, 74, rfl⟩
abbrev main_call0_call0_call0_call0_v30 : Ref sig .tc := ⟨.hbm, 75, rfl⟩
abbrev main_call0_call0_call0_call0_v31 : Ref sig .tc := ⟨.hbm, 76, rfl⟩
abbrev main_call0_call0_call0_call0_v32 : Ref sig .tc := ⟨.hbm, 77, rfl⟩
abbrev main_call0_call0_call0_call0_v33 : Ref sig .tc := ⟨.hbm, 78, rfl⟩
abbrev main_call0_call0_call0_call0_v34 : Ref sig .tc := ⟨.hbm, 79, rfl⟩
abbrev main_call0_call0_call0_call0_v35 : Ref sig .tc := ⟨.hbm, 80, rfl⟩
abbrev main_call0_call0_call0_call0_v36 : Ref sig .tc := ⟨.hbm, 81, rfl⟩
abbrev main_call0_call0_call0_call0_v37 : Ref sig .tc := ⟨.hbm, 82, rfl⟩
abbrev main_call0_call0_call0_call0_c_8 : Ref sig .tc := ⟨.hbm, 83, rfl⟩
abbrev main_call0_call0_call0_call0_v38 : Ref sig .tc := ⟨.hbm, 84, rfl⟩
abbrev main_call0_call0_call0_call0_v39 : Ref sig .tc := ⟨.hbm, 85, rfl⟩
abbrev main_call0_call0_call0_call0_v40 : Ref sig .tc := ⟨.hbm, 86, rfl⟩
abbrev main_call0_call0_call0_call0_c_9 : Ref sig .tc := ⟨.hbm, 87, rfl⟩
abbrev main_call0_call0_call0_call0_v41 : Ref sig .tc := ⟨.hbm, 88, rfl⟩
abbrev main_call0_call0_call0_call0_v42 : Ref sig .tc := ⟨.hbm, 89, rfl⟩
abbrev main_call0_call0_call0_call0_c_10 : Ref sig .tc := ⟨.hbm, 90, rfl⟩
abbrev main_call0_call0_call0_call0_v43 : Ref sig .tc := ⟨.hbm, 91, rfl⟩
abbrev main_call0_call0_call0_call0_v44 : Ref sig .tc := ⟨.hbm, 92, rfl⟩
abbrev main_call0_call0_call0_call0_v45 : Ref sig .tc := ⟨.hbm, 93, rfl⟩
abbrev main_call0_call0_call0_call0_v46 : Ref sig .tc := ⟨.hbm, 94, rfl⟩
abbrev main_call0_call0_call0_call0_v47 : Ref sig .tc := ⟨.hbm, 95, rfl⟩
abbrev main_call0_call0_call0_call0_c_11 : Ref sig .tc := ⟨.hbm, 96, rfl⟩
abbrev main_call0_call0_call0_call0_v48 : Ref sig .tc := ⟨.hbm, 97, rfl⟩
abbrev main_call0_call0_call0_call0_v49 : Ref sig .tc := ⟨.hbm, 98, rfl⟩
abbrev main_call0_call0_call0_call0_c_12 : Ref sig .tc := ⟨.hbm, 99, rfl⟩
abbrev main_call0_call0_call0_call0_v50 : Ref sig .tc := ⟨.hbm, 100, rfl⟩
abbrev main_call0_call0_call0_call0_v51 : Ref sig .tc := ⟨.hbm, 101, rfl⟩
abbrev main_call0_call0_call0_call0_v52 : Ref sig .tc := ⟨.hbm, 102, rfl⟩
abbrev main_call0_call0_call0_call0_v53 : Ref sig .tc := ⟨.hbm, 103, rfl⟩
abbrev main_call0_call0_call0_call0_v54 : Ref sig .tc := ⟨.hbm, 104, rfl⟩
abbrev main_call0_call0_call0_call0_c_13 : Ref sig .tc := ⟨.hbm, 105, rfl⟩
abbrev main_call0_call0_call0_call0_v55 : Ref sig .tc := ⟨.hbm, 106, rfl⟩
abbrev main_call0_call0_call0_call0_v56 : Ref sig .tc := ⟨.hbm, 107, rfl⟩
abbrev main_call0_call0_call0_call0_c_14 : Ref sig .tc := ⟨.hbm, 108, rfl⟩
abbrev main_call0_call0_call0_call0_v57 : Ref sig .tc := ⟨.hbm, 109, rfl⟩
abbrev main_call0_call0_call0_call0_v58 : Ref sig .tc := ⟨.hbm, 110, rfl⟩
abbrev main_call0_call0_call0_call0_v59 : Ref sig .tc := ⟨.hbm, 111, rfl⟩
abbrev main_call0_call0_call0_call0_v60 : Ref sig .tc := ⟨.hbm, 112, rfl⟩
abbrev main_call0_call0_call0_call0_v61 : Ref sig .tc := ⟨.hbm, 113, rfl⟩
abbrev main_call0_call0_call0_call0_c_15 : Ref sig .tc := ⟨.hbm, 114, rfl⟩
abbrev main_call0_call0_call0_call0_v62 : Ref sig .tc := ⟨.hbm, 115, rfl⟩
abbrev main_call0_call0_call0_call0_v63 : Ref sig .tc := ⟨.hbm, 116, rfl⟩
abbrev main_call0_call0_call0_call0_c_16 : Ref sig .tc := ⟨.hbm, 117, rfl⟩
abbrev main_call0_call0_call0_call0_v64 : Ref sig .tc := ⟨.hbm, 118, rfl⟩
abbrev main_call0_call0_call0_call0_v65 : Ref sig .tc := ⟨.hbm, 119, rfl⟩
abbrev main_call0_call0_call0_call0_v66 : Ref sig .tc := ⟨.hbm, 120, rfl⟩
abbrev main_call0_call0_call0_call0_v67 : Ref sig .tc := ⟨.hbm, 121, rfl⟩
abbrev main_call0_call0_call0_call0_v68 : Ref sig .tc := ⟨.hbm, 122, rfl⟩
abbrev main_call0_call0_call0_call0_v69 : Ref sig .tc := ⟨.hbm, 123, rfl⟩
abbrev main_call0_call0_call0_call0_v70 : Ref sig .tc := ⟨.hbm, 124, rfl⟩
abbrev main_call0_call0_call0_call0_v71 : Ref sig .tc := ⟨.hbm, 125, rfl⟩
abbrev main_call0_call0_call0_call0_c_17 : Ref sig .tc := ⟨.hbm, 126, rfl⟩
abbrev main_call0_call0_call0_call0_v72 : Ref sig .tc := ⟨.hbm, 127, rfl⟩
abbrev main_call0_call0_call0_call0_v73 : Ref sig .tc := ⟨.hbm, 128, rfl⟩
abbrev main_call0_call0_call0_call0_v74 : Ref sig .tc := ⟨.hbm, 129, rfl⟩
abbrev main_call0_call0_call0_call0_c_18 : Ref sig .tc := ⟨.hbm, 130, rfl⟩
abbrev main_call0_call0_call0_call0_v75 : Ref sig .tc := ⟨.hbm, 131, rfl⟩
abbrev main_call0_call0_call0_call0_v76 : Ref sig .tc := ⟨.hbm, 132, rfl⟩
abbrev main_call0_call0_call0_call0_c_19 : Ref sig .tc := ⟨.hbm, 133, rfl⟩
abbrev main_call0_call0_call0_call0_v77 : Ref sig .tc := ⟨.hbm, 134, rfl⟩
abbrev main_call0_call0_call0_call0_v78 : Ref sig .tc := ⟨.hbm, 135, rfl⟩
abbrev main_call0_call0_call0_call0_v79 : Ref sig .tc := ⟨.hbm, 136, rfl⟩
abbrev main_call0_call0_call0_call0_v80 : Ref sig .tc := ⟨.hbm, 137, rfl⟩
abbrev main_call0_call0_call0_call0_v81 : Ref sig .tc := ⟨.hbm, 138, rfl⟩
abbrev main_call0_call0_call0_call0_c_20 : Ref sig .tc := ⟨.hbm, 139, rfl⟩
abbrev main_call0_call0_call0_call0_v82 : Ref sig .tc := ⟨.hbm, 140, rfl⟩
abbrev main_call0_call0_call0_call0_v83 : Ref sig .tc := ⟨.hbm, 141, rfl⟩
abbrev main_call0_call0_call0_call0_c_21 : Ref sig .tc := ⟨.hbm, 142, rfl⟩
abbrev main_call0_call0_call0_call0_v84 : Ref sig .tc := ⟨.hbm, 143, rfl⟩
abbrev main_call0_call0_call0_call0_v85 : Ref sig .tc := ⟨.hbm, 144, rfl⟩
abbrev main_call0_call0_call0_call0_v86 : Ref sig .tc := ⟨.hbm, 145, rfl⟩
abbrev main_call0_call0_call0_call0_v87 : Ref sig .tc := ⟨.hbm, 146, rfl⟩
abbrev main_call0_call0_call0_call0_v88 : Ref sig .tc := ⟨.hbm, 147, rfl⟩
abbrev main_call0_call0_call0_call0_c_22 : Ref sig .tc := ⟨.hbm, 148, rfl⟩
abbrev main_call0_call0_call0_call0_v89 : Ref sig .tc := ⟨.hbm, 149, rfl⟩
abbrev main_call0_call0_call0_call0_v90 : Ref sig .tc := ⟨.hbm, 150, rfl⟩
abbrev main_call0_call0_call0_call0_c_23 : Ref sig .tc := ⟨.hbm, 151, rfl⟩
abbrev main_call0_call0_call0_call0_v91 : Ref sig .tc := ⟨.hbm, 152, rfl⟩
abbrev main_call0_call0_call0_call0_v92 : Ref sig .tc := ⟨.hbm, 153, rfl⟩
abbrev main_call0_call0_call0_call0_v93 : Ref sig .tc := ⟨.hbm, 154, rfl⟩
abbrev main_call0_call0_call0_call0_v94 : Ref sig .tc := ⟨.hbm, 155, rfl⟩
abbrev main_call0_call0_call0_call0_v95 : Ref sig .tc := ⟨.hbm, 156, rfl⟩
abbrev main_call0_call0_call0_call0_c_24 : Ref sig .tc := ⟨.hbm, 157, rfl⟩
abbrev main_call0_call0_call0_call0_v96 : Ref sig .tc := ⟨.hbm, 158, rfl⟩
abbrev main_call0_call0_call0_call0_v97 : Ref sig .tc := ⟨.hbm, 159, rfl⟩
abbrev main_call0_call0_call0_call0_c_25 : Ref sig .tc := ⟨.hbm, 160, rfl⟩
abbrev main_call0_call0_call0_call0_v98 : Ref sig .tc := ⟨.hbm, 161, rfl⟩
abbrev main_call0_call0_call0_call0_v99 : Ref sig .tc := ⟨.hbm, 162, rfl⟩
abbrev main_call0_call0_call0_call0_v100 : Ref sig .tc := ⟨.hbm, 163, rfl⟩
abbrev main_call0_call0_call0_call0_v101 : Ref sig .tc := ⟨.hbm, 164, rfl⟩
abbrev main_call0_call0_call0_call0_v102 : Ref sig .tc := ⟨.hbm, 165, rfl⟩
abbrev main_call0_call0_call0_call0_v103 : Ref sig .tc := ⟨.hbm, 166, rfl⟩
abbrev main_call0_call0_call0_call0_v104 : Ref sig .tc := ⟨.hbm, 167, rfl⟩
abbrev main_call0_call0_call0_call0_v105 : Ref sig .tc := ⟨.hbm, 168, rfl⟩
abbrev main_call0_call0_call0_call0_c_26 : Ref sig .tc := ⟨.hbm, 169, rfl⟩
abbrev main_call0_call0_call0_call0_v106 : Ref sig .tc := ⟨.hbm, 170, rfl⟩
abbrev main_call0_call0_call0_call0_v107 : Ref sig .tc := ⟨.hbm, 171, rfl⟩
abbrev main_call0_call0_call0_call0_v108 : Ref sig .tc := ⟨.hbm, 172, rfl⟩
abbrev main_call0_call0_call0_call0_c_27 : Ref sig .tc := ⟨.hbm, 173, rfl⟩
abbrev main_call0_call0_call0_call0_v109 : Ref sig .tc := ⟨.hbm, 174, rfl⟩
abbrev main_call0_call0_call0_call0_v110 : Ref sig .tc := ⟨.hbm, 175, rfl⟩
abbrev main_call0_call0_call0_call0_c_28 : Ref sig .tc := ⟨.hbm, 176, rfl⟩
abbrev main_call0_call0_call0_call0_v111 : Ref sig .tc := ⟨.hbm, 177, rfl⟩
abbrev main_call0_call0_call0_call0_v112 : Ref sig .tc := ⟨.hbm, 178, rfl⟩
abbrev main_call0_call0_call0_call0_v113 : Ref sig .tc := ⟨.hbm, 179, rfl⟩
abbrev main_call0_call0_call0_call0_v114 : Ref sig .tc := ⟨.hbm, 180, rfl⟩
abbrev main_call0_call0_call0_call0_v115 : Ref sig .tc := ⟨.hbm, 181, rfl⟩
abbrev main_call0_call0_call0_call0_c_29 : Ref sig .tc := ⟨.hbm, 182, rfl⟩
abbrev main_call0_call0_call0_call0_v116 : Ref sig .tc := ⟨.hbm, 183, rfl⟩
abbrev main_call0_call0_call0_call0_v117 : Ref sig .tc := ⟨.hbm, 184, rfl⟩
abbrev main_call0_call0_call0_call0_c_30 : Ref sig .tc := ⟨.hbm, 185, rfl⟩
abbrev main_call0_call0_call0_call0_v118 : Ref sig .tc := ⟨.hbm, 186, rfl⟩
abbrev main_call0_call0_call0_call0_v119 : Ref sig .tc := ⟨.hbm, 187, rfl⟩
abbrev main_call0_call0_call0_call0_v120 : Ref sig .tc := ⟨.hbm, 188, rfl⟩
abbrev main_call0_call0_call0_call0_v121 : Ref sig .tc := ⟨.hbm, 189, rfl⟩
abbrev main_call0_call0_call0_call0_v122 : Ref sig .tc := ⟨.hbm, 190, rfl⟩
abbrev main_call0_call0_call0_call0_c_31 : Ref sig .tc := ⟨.hbm, 191, rfl⟩
abbrev main_call0_call0_call0_call0_v123 : Ref sig .tc := ⟨.hbm, 192, rfl⟩
abbrev main_call0_call0_call0_call0_v124 : Ref sig .tc := ⟨.hbm, 193, rfl⟩
abbrev main_call0_call0_call0_call0_c_32 : Ref sig .tc := ⟨.hbm, 194, rfl⟩
abbrev main_call0_call0_call0_call0_v125 : Ref sig .tc := ⟨.hbm, 195, rfl⟩
abbrev main_call0_call0_call0_call0_v126 : Ref sig .tc := ⟨.hbm, 196, rfl⟩
abbrev main_call0_call0_call0_call0_v127 : Ref sig .tc := ⟨.hbm, 197, rfl⟩
abbrev main_call0_call0_call0_call0_v128 : Ref sig .tc := ⟨.hbm, 198, rfl⟩
abbrev main_call0_call0_call0_call0_v129 : Ref sig .tc := ⟨.hbm, 199, rfl⟩
abbrev main_call0_call0_call0_call0_c_33 : Ref sig .tc := ⟨.hbm, 200, rfl⟩
abbrev main_call0_call0_call0_call0_v130 : Ref sig .tc := ⟨.hbm, 201, rfl⟩
abbrev main_call0_call0_call0_call0_v131 : Ref sig .tc := ⟨.hbm, 202, rfl⟩
abbrev main_call0_call0_call0_call0_c_34 : Ref sig .tc := ⟨.hbm, 203, rfl⟩
abbrev main_call0_call0_call0_call0_v132 : Ref sig .tc := ⟨.hbm, 204, rfl⟩
abbrev main_call0_call0_call0_call0_v133 : Ref sig .tc := ⟨.hbm, 205, rfl⟩
abbrev main_call0_call0_call0_call0_v134 : Ref sig .tc := ⟨.hbm, 206, rfl⟩
abbrev main_call0_call0_call0_call0_v135 : Ref sig .tc := ⟨.hbm, 207, rfl⟩
abbrev main_call0_call0_call0_call0_v136 : Ref sig .tc := ⟨.hbm, 208, rfl⟩
abbrev main_call0_call0_call0_call0_v137 : Ref sig .tc := ⟨.hbm, 209, rfl⟩
abbrev main_call0_call0_call0_call0_v138 : Ref sig .tc := ⟨.hbm, 210, rfl⟩
abbrev main_call0_call0_call0_call0_v139 : Ref sig .tc := ⟨.hbm, 211, rfl⟩
abbrev main_call0_call0_call0_call0_c_35 : Ref sig .tc := ⟨.hbm, 212, rfl⟩
abbrev main_call0_call0_call0_call0_v140 : Ref sig .tc := ⟨.hbm, 213, rfl⟩
abbrev main_call0_call0_call0_call0_v141 : Ref sig .tc := ⟨.hbm, 214, rfl⟩
abbrev main_call0_call0_call0_call0_v142 : Ref sig .tc := ⟨.hbm, 215, rfl⟩
abbrev main_call0_call0_call0_call0_c_36 : Ref sig .tc := ⟨.hbm, 216, rfl⟩
abbrev main_call0_call0_call0_call0_v143 : Ref sig .tc := ⟨.hbm, 217, rfl⟩
abbrev main_call0_call0_call0_call0_v144 : Ref sig .tc := ⟨.hbm, 218, rfl⟩
abbrev main_call0_call0_call0_call0_c_37 : Ref sig .tc := ⟨.hbm, 219, rfl⟩
abbrev main_call0_call0_call0_call0_v145 : Ref sig .tc := ⟨.hbm, 220, rfl⟩
abbrev main_call0_call0_call0_call0_v146 : Ref sig .tc := ⟨.hbm, 221, rfl⟩
abbrev main_call0_call0_call0_call0_v147 : Ref sig .tc := ⟨.hbm, 222, rfl⟩
abbrev main_call0_call0_call0_call0_v148 : Ref sig .tc := ⟨.hbm, 223, rfl⟩
abbrev main_call0_call0_call0_call0_v149 : Ref sig .tc := ⟨.hbm, 224, rfl⟩
abbrev main_call0_call0_call0_call0_c_38 : Ref sig .tc := ⟨.hbm, 225, rfl⟩
abbrev main_call0_call0_call0_call0_v150 : Ref sig .tc := ⟨.hbm, 226, rfl⟩
abbrev main_call0_call0_call0_call0_v151 : Ref sig .tc := ⟨.hbm, 227, rfl⟩
abbrev main_call0_call0_call0_call0_c_39 : Ref sig .tc := ⟨.hbm, 228, rfl⟩
abbrev main_call0_call0_call0_call0_v152 : Ref sig .tc := ⟨.hbm, 229, rfl⟩
abbrev main_call0_call0_call0_call0_v153 : Ref sig .tc := ⟨.hbm, 230, rfl⟩
abbrev main_call0_call0_call0_call0_v154 : Ref sig .tc := ⟨.hbm, 231, rfl⟩
abbrev main_call0_call0_call0_call0_v155 : Ref sig .tc := ⟨.hbm, 232, rfl⟩
abbrev main_call0_call0_call0_call0_v156 : Ref sig .tc := ⟨.hbm, 233, rfl⟩
abbrev main_call0_call0_call0_call0_c_40 : Ref sig .tc := ⟨.hbm, 234, rfl⟩
abbrev main_call0_call0_call0_call0_v157 : Ref sig .tc := ⟨.hbm, 235, rfl⟩
abbrev main_call0_call0_call0_call0_v158 : Ref sig .tc := ⟨.hbm, 236, rfl⟩
abbrev main_call0_call0_call0_call0_c_41 : Ref sig .tc := ⟨.hbm, 237, rfl⟩
abbrev main_call0_call0_call0_call0_v159 : Ref sig .tc := ⟨.hbm, 238, rfl⟩
abbrev main_call0_call0_call0_call0_v160 : Ref sig .tc := ⟨.hbm, 239, rfl⟩
abbrev main_call0_call0_call0_call0_v161 : Ref sig .tc := ⟨.hbm, 240, rfl⟩
abbrev main_call0_call0_call0_call0_v162 : Ref sig .tc := ⟨.hbm, 241, rfl⟩
abbrev main_call0_call0_call0_call0_v163 : Ref sig .tc := ⟨.hbm, 242, rfl⟩
abbrev main_call0_call0_call0_call0_c_42 : Ref sig .tc := ⟨.hbm, 243, rfl⟩
abbrev main_call0_call0_call0_call0_v164 : Ref sig .tc := ⟨.hbm, 244, rfl⟩
abbrev main_call0_call0_call0_call0_v165 : Ref sig .tc := ⟨.hbm, 245, rfl⟩
abbrev main_call0_call0_call0_call0_c_43 : Ref sig .tc := ⟨.hbm, 246, rfl⟩
abbrev main_call0_call0_call0_call0_v166 : Ref sig .tc := ⟨.hbm, 247, rfl⟩
abbrev main_call0_call0_call0_call0_v167 : Ref sig .tc := ⟨.hbm, 248, rfl⟩
abbrev main_call0_call0_call0_call0_v168 : Ref sig .tc := ⟨.hbm, 249, rfl⟩
abbrev main_call0_call0_call0_call0_v169 : Ref sig .tc := ⟨.hbm, 250, rfl⟩
abbrev main_call0_call0_call0_call0_v170 : Ref sig .tc := ⟨.hbm, 251, rfl⟩
abbrev main_call0_call0_call0_v18_0 : Ref sig .tc := ⟨.hbm, 252, rfl⟩
abbrev main_call0_call0_call0_call0_v172 : Ref sig .tc := ⟨.hbm, 253, rfl⟩
abbrev main_call0_call0_call0_call0_v173 : Ref sig .tc := ⟨.hbm, 254, rfl⟩
abbrev main_call0_call0_call0_call0_c_44 : Ref sig .tc := ⟨.hbm, 255, rfl⟩
abbrev main_call0_call0_call0_call0_v174 : Ref sig .tc := ⟨.hbm, 256, rfl⟩
abbrev main_call0_call0_call0_v18_1 : Ref sig .tc := ⟨.hbm, 257, rfl⟩
abbrev main_call0_call0_call0_v19 : Ref sig .tc := ⟨.hbm, 258, rfl⟩
abbrev main_call0_call0_call0_c_2 : Ref sig .tc := ⟨.hbm, 259, rfl⟩
abbrev main_call0_call0_call0_v20 : Ref sig .tc := ⟨.hbm, 260, rfl⟩
abbrev main_call0_call0_call0_v21 : Ref sig .tc := ⟨.hbm, 261, rfl⟩
abbrev main_call0_call0_call0_c_3 : Ref sig .tc := ⟨.hbm, 262, rfl⟩
abbrev main_call0_call0_call0_v22 : Ref sig .tc := ⟨.hbm, 263, rfl⟩
abbrev main_call0_call0_call0_v23 : Ref sig .tc := ⟨.hbm, 264, rfl⟩
abbrev main_call0_call0_call0_v24 : Ref sig .tc := ⟨.hbm, 265, rfl⟩
abbrev main_call0_call0_call0_cst : Ref sig .tc := ⟨.hbm, 266, rfl⟩
abbrev main_call0_call0_call0_v25 : Ref sig .tc := ⟨.hbm, 267, rfl⟩
abbrev main_call0_call0_call0_v26 : Ref sig .tc := ⟨.hbm, 268, rfl⟩
abbrev main_call0_call0_call0_v27 : Ref sig .tc := ⟨.hbm, 269, rfl⟩
abbrev main_call0_call0_call0_v28 : Ref sig .tc := ⟨.hbm, 270, rfl⟩
abbrev main_call0_call0_call0_v29 : Ref sig .tc := ⟨.hbm, 271, rfl⟩
abbrev main_call0_call0_call0_v30 : Ref sig .tc := ⟨.hbm, 272, rfl⟩
abbrev main_call0_call0_call0_v31 : Ref sig .tc := ⟨.hbm, 273, rfl⟩
abbrev main_call0_call0_call0_v32 : Ref sig .tc := ⟨.hbm, 274, rfl⟩
abbrev main_call0_call0_v0 : Ref sig .tc := ⟨.hbm, 275, rfl⟩
abbrev main_call0_call0_v1 : Ref sig .tc := ⟨.hbm, 276, rfl⟩
abbrev main_call0_call0_v2 : Ref sig .tc := ⟨.hbm, 277, rfl⟩
abbrev main_call0_call0_v3 : Ref sig .tc := ⟨.hbm, 278, rfl⟩
abbrev main_call0_v7 : Ref sig .tc := ⟨.hbm, 279, rfl⟩
abbrev main_call0_v8 : Ref sig .tc := ⟨.hbm, 280, rfl⟩
abbrev main_call0_v9 : Ref sig .tc := ⟨.hbm, 281, rfl⟩
abbrev main_call0_v10 : Ref sig .tc := ⟨.hbm, 282, rfl⟩
abbrev main_call0_v11 : Ref sig .tc := ⟨.hbm, 283, rfl⟩
abbrev main_call0_v12 : Ref sig .tc := ⟨.hbm, 284, rfl⟩
abbrev main_call0_v13_0 : Ref sig .tc := ⟨.hbm, 285, rfl⟩
abbrev main_call0_v13_1 : Ref sig .tc := ⟨.hbm, 286, rfl⟩
abbrev main_v0 : Ref sig .tc := ⟨.hbm, 287, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_7 : BitVec 32 := 0#32
  let v18 : BitVec 1 := Scalar.cmpi .ne v17 c0_i32_7
  v18

def k0_cond2 (i : grid0.Coords) : BitVec 1 :=
  let arg0 : BitVec 32 := BitVec.ofNat 32 (i 0).val
  let c0_i32_8 : BitVec 32 := 0#32
  let v19 : BitVec 1 := Scalar.cmpi .ne arg0 c0_i32_8
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x1024 : Shape := ⟨2, ![8, 1024]⟩
abbrev S100000x1024 : Shape := ⟨2, ![100000, 1024]⟩
abbrev S100000 : Shape := ⟨1, ![100000]⟩
abbrev S1024x100000 : Shape := ⟨2, ![1024, 100000]⟩
abbrev S8x100000 : Shape := ⟨2, ![8, 100000]⟩
abbrev S1x100000 : Shape := ⟨2, ![1, 100000]⟩
abbrev S_ : Shape := ⟨0, ![]⟩
abbrev S8 : Shape := ⟨1, ![8]⟩
abbrev S8x1 : Shape := ⟨2, ![8, 1]⟩
abbrev S1 : Shape := ⟨1, ![1]⟩
abbrev S2 : Shape := ⟨1, ![2]⟩
abbrev S1x1 : Shape := ⟨2, ![1, 1]⟩

abbrev nBuf : Space → Nat
  | .hbm => 307
  | .vmem => 0
  | .smem => 0
  | _ => 0

abbrev hbmTy0_0 (i : Nat) : BufTy := match i % 128 with
  | 0 => ⟨S8x1024, .f32⟩
  | 1 => ⟨S100000x1024, .f32⟩
  | 2 => ⟨S100000, .f32⟩
  | 3 => ⟨S1024x100000, .f32⟩
  | 4 => ⟨S8x100000, .f32⟩
  | 5 => ⟨S1x100000, .f32⟩
  | 6 => ⟨S8x100000, .f32⟩
  | 7 => ⟨S8x100000, .f32⟩
  | 8 => ⟨S_, .f32⟩
  | 9 => ⟨S8, .f32⟩
  | 10 => ⟨S_, .f32⟩
  | 11 => ⟨S8, .f32⟩
  | 12 => ⟨S8, .f32⟩
  | 13 => ⟨S8x1, .f32⟩
  | 14 => ⟨S8x100000, .f32⟩
  | 15 => ⟨S8x100000, .f32⟩
  | 16 => ⟨S8x100000, .f32⟩
  | 17 => ⟨S_, .f32⟩
  | 18 => ⟨S8, .f32⟩
  | 19 => ⟨S8x1, .f32⟩
  | 20 => ⟨S8x100000, .f32⟩
  | 21 => ⟨S8x100000, .f32⟩
  | 22 => ⟨S_, .i32⟩
  | 23 => ⟨S_, .i32⟩
  | 24 => ⟨S_, .i32⟩
  | 25 => ⟨S_, .i32⟩
  | 26 => ⟨S1, .i32⟩
  | 27 => ⟨S_, .i32⟩
  | 28 => ⟨S_, .i32⟩
  | 29 => ⟨S_, .i32⟩
  | 30 => ⟨S1, .i32⟩
  | 31 => ⟨S2, .i32⟩
  | 32 => ⟨S8x100000, .f32⟩
  | 33 => ⟨S_, .f32⟩
  | 34 => ⟨S_, .f32⟩
  | 35 => ⟨S_, .f32⟩
  | 36 => ⟨S1x1, .f32⟩
  | 37 => ⟨S1x1, .f32⟩
  | 38 => ⟨S1, .i32⟩
  | 39 => ⟨S_, .i32⟩
  | 40 => ⟨S1, .i32⟩
  | 41 => ⟨S_, .i32⟩
  | 42 => ⟨S8x100000, .i64⟩
  | 43 => ⟨S8x100000, .i64⟩
  | 44 => ⟨S_, .i64⟩
  | 45 => ⟨S8x100000, .i64⟩
  | 46 => ⟨S8x100000, .i64⟩
  | 47 => ⟨S_, .i64⟩
  | 48 => ⟨S8x100000, .i64⟩
  | 49 => ⟨S8x100000, .i64⟩
  | 50 => ⟨S8x100000, .i64⟩
  | 51 => ⟨S_, .i64⟩
  | 52 => ⟨S8x100000, .i64⟩
  | 53 => ⟨S8x100000, .i64⟩
  | 54 => ⟨S8x100000, .i32⟩
  | 55 => ⟨S8x100000, .i32⟩
  | 56 => ⟨S_, .i32⟩
  | 57 => ⟨S_, .i32⟩
  | 58 => ⟨S_, .i32⟩
  | 59 => ⟨S8x100000, .i32⟩
  | 60 => ⟨S8x100000, .i32⟩
  | 61 => ⟨S8x100000, .i32⟩
  | 62 => ⟨S8x100000, .i32⟩
  | 63 => ⟨S8x100000, .i32⟩
  | 64 => ⟨S_, .i32⟩
  | 65 => ⟨S8x100000, .i32⟩
  | 66 => ⟨S8x100000, .i32⟩
  | 67 => ⟨S_, .i32⟩
  | 68 => ⟨S8x100000, .i32⟩
  | 69 => ⟨S8x100000, .i32⟩
  | 70 => ⟨S8x100000, .i32⟩
  | 71 => ⟨S8x100000, .i32⟩
  | 72 => ⟨S8x100000, .i32⟩
  | 73 => ⟨S_, .i32⟩
  | 74 => ⟨S8x100000, .i32⟩
  | 75 => ⟨S8x100000, .i32⟩
  | 76 => ⟨S_, .i32⟩
  | 77 => ⟨S8x100000, .i32⟩
  | 78 => ⟨S8x100000, .i32⟩
  | 79 => ⟨S8x100000, .i32⟩
  | 80 => ⟨S8x100000, .i32⟩
  | 81 => ⟨S8x100000, .i32⟩
  | 82 => ⟨S_, .i32⟩
  | 83 => ⟨S8x100000, .i32⟩
  | 84 => ⟨S8x100000, .i32⟩
  | 85 => ⟨S_, .i32⟩
  | 86 => ⟨S8x100000, .i32⟩
  | 87 => ⟨S8x100000, .i32⟩
  | 88 => ⟨S8x100000, .i32⟩
  | 89 => ⟨S8x100000, .i32⟩
  | 90 => ⟨S8x100000, .i32⟩
  | 91 => ⟨S_, .i32⟩
  | 92 => ⟨S8x100000, .i32⟩
  | 93 => ⟨S8x100000, .i32⟩
  | 94 => ⟨S_, .i32⟩
  | 95 => ⟨S8x100000, .i32⟩
  | 96 => ⟨S8x100000, .i32⟩
  | 97 => ⟨S8x100000, .i32⟩
  | 98 => ⟨S8x100000, .i32⟩
  | 99 => ⟨S8x100000, .i32⟩
  | 100 => ⟨S8x100000, .i32⟩
  | 101 => ⟨S8x100000, .i32⟩
  | 102 => ⟨S8x100000, .i32⟩
  | 103 => ⟨S_, .i32⟩
  | 104 => ⟨S8x100000, .i32⟩
  | 105 => ⟨S8x100000, .i32⟩
  | 106 => ⟨S8x100000, .i32⟩
  | 107 => ⟨S_, .i32⟩
  | 108 => ⟨S8x100000, .i32⟩
  | 109 => ⟨S8x100000, .i32⟩
  | 110 => ⟨S_, .i32⟩
  | 111 => ⟨S8x100000, .i32⟩
  | 112 => ⟨S8x100000, .i32⟩
  | 113 => ⟨S8x100000, .i32⟩
  | 114 => ⟨S8x100000, .i32⟩
  | 115 => ⟨S8x100000, .i32⟩
  | 116 => ⟨S_, .i32⟩
  | 117 => ⟨S8x100000, .i32⟩
  | 118 => ⟨S8x100000, .i32⟩
  | 119 => ⟨S_, .i32⟩
  | 120 => ⟨S8x100000, .i32⟩
  | 121 => ⟨S8x100000, .i32⟩
  | 122 => ⟨S8x100000, .i32⟩
  | 123 => ⟨S8x100000, .i32⟩
  | 124 => ⟨S8x100000, .i32⟩
  | 125 => ⟨S_, .i32⟩
  | 126 => ⟨S8x100000, .i32⟩
  | 127 => ⟨S8x100000, .i32⟩
  | _ => ⟨S8x1024, .f32⟩

abbrev hbmTy0_1 (i : Nat) : BufTy := match i % 128 with
  | 0 => ⟨S_, .i32⟩
  | 1 => ⟨S8x100000, .i32⟩
  | 2 => ⟨S8x100000, .i32⟩
  | 3 => ⟨S8x100000, .i32⟩
  | 4 => ⟨S8x100000, .i32⟩
  | 5 => ⟨S8x100000, .i32⟩
  | 6 => ⟨S_, .i32⟩
  | 7 => ⟨S8x100000, .i32⟩
  | 8 => ⟨S8x100000, .i32⟩
  | 9 => ⟨S_, .i32⟩
  | 10 => ⟨S8x100000, .i32⟩
  | 11 => ⟨S8x100000, .i32⟩
  | 12 => ⟨S8x100000, .i32⟩
  | 13 => ⟨S8x100000, .i32⟩
  | 14 => ⟨S8x100000, .i32⟩
  | 15 => ⟨S8x100000, .i32⟩
  | 16 => ⟨S8x100000, .i32⟩
  | 17 => ⟨S8x100000, .i32⟩
  | 18 => ⟨S_, .i32⟩
  | 19 => ⟨S8x100000, .i32⟩
  | 20 => ⟨S8x100000, .i32⟩
  | 21 => ⟨S8x100000, .i32⟩
  | 22 => ⟨S_, .i32⟩
  | 23 => ⟨S8x100000, .i32⟩
  | 24 => ⟨S8x100000, .i32⟩
  | 25 => ⟨S_, .i32⟩
  | 26 => ⟨S8x100000, .i32⟩
  | 27 => ⟨S8x100000, .i32⟩
  | 28 => ⟨S8x100000, .i32⟩
  | 29 => ⟨S8x100000, .i32⟩
  | 30 => ⟨S8x100000, .i32⟩
  | 31 => ⟨S_, .i32⟩
  | 32 => ⟨S8x100000, .i32⟩
  | 33 => ⟨S8x100000, .i32⟩
  | 34 => ⟨S_, .i32⟩
  | 35 => ⟨S8x100000, .i32⟩
  | 36 => ⟨S8x100000, .i32⟩
  | 37 => ⟨S8x100000, .i32⟩
  | 38 => ⟨S8x100000, .i32⟩
  | 39 => ⟨S8x100000, .i32⟩
  | 40 => ⟨S_, .i32⟩
  | 41 => ⟨S8x100000, .i32⟩
  | 42 => ⟨S8x100000, .i32⟩
  | 43 => ⟨S_, .i32⟩
  | 44 => ⟨S8x100000, .i32⟩
  | 45 => ⟨S8x100000, .i32⟩
  | 46 => ⟨S8x100000, .i32⟩
  | 47 => ⟨S8x100000, .i32⟩
  | 48 => ⟨S8x100000, .i32⟩
  | 49 => ⟨S_, .i32⟩
  | 50 => ⟨S8x100000, .i32⟩
  | 51 => ⟨S8x100000, .i32⟩
  | 52 => ⟨S_, .i32⟩
  | 53 => ⟨S8x100000, .i32⟩
  | 54 => ⟨S8x100000, .i32⟩
  | 55 => ⟨S8x100000, .i32⟩
  | 56 => ⟨S8x100000, .i32⟩
  | 57 => ⟨S8x100000, .i32⟩
  | 58 => ⟨S8x100000, .i32⟩
  | 59 => ⟨S8x100000, .i32⟩
  | 60 => ⟨S8x100000, .i32⟩
  | 61 => ⟨S_, .i32⟩
  | 62 => ⟨S8x100000, .i32⟩
  | 63 => ⟨S8x100000, .i32⟩
  | 64 => ⟨S8x100000, .i32⟩
  | 65 => ⟨S_, .i32⟩
  | 66 => ⟨S8x100000, .i32⟩
  | 67 => ⟨S8x100000, .i32⟩
  | 68 => ⟨S_, .i32⟩
  | 69 => ⟨S8x100000, .i32⟩
  | 70 => ⟨S8x100000, .i32⟩
  | 71 => ⟨S8x100000, .i32⟩
  | 72 => ⟨S8x100000, .i32⟩
  | 73 => ⟨S8x100000, .i32⟩
  | 74 => ⟨S_, .i32⟩
  | 75 => ⟨S8x100000, .i32⟩
  | 76 => ⟨S8x100000, .i32⟩
  | 77 => ⟨S_, .i32⟩
  | 78 => ⟨S8x100000, .i32⟩
  | 79 => ⟨S8x100000, .i32⟩
  | 80 => ⟨S8x100000, .i32⟩
  | 81 => ⟨S8x100000, .i32⟩
  | 82 => ⟨S8x100000, .i32⟩
  | 83 => ⟨S_, .i32⟩
  | 84 => ⟨S8x100000, .i32⟩
  | 85 => ⟨S8x100000, .i32⟩
  | 86 => ⟨S_, .i32⟩
  | 87 => ⟨S8x100000, .i32⟩
  | 88 => ⟨S8x100000, .i32⟩
  | 89 => ⟨S8x100000, .i32⟩
  | 90 => ⟨S8x100000, .i32⟩
  | 91 => ⟨S8x100000, .i32⟩
  | 92 => ⟨S_, .i32⟩
  | 93 => ⟨S8x100000, .i32⟩
  | 94 => ⟨S8x100000, .i32⟩
  | 95 => ⟨S_, .i32⟩
  | 96 => ⟨S8x100000, .i32⟩
  | 97 => ⟨S8x100000, .i32⟩
  | 98 => ⟨S8x100000, .i32⟩
  | 99 => ⟨S8x100000, .i32⟩
  | 100 => ⟨S8x100000, .i32⟩
  | 101 => ⟨S8x100000, .i32⟩
  | 102 => ⟨S8x100000, .i32⟩
  | 103 => ⟨S8x100000, .i32⟩
  | 104 => ⟨S_, .i32⟩
  | 105 => ⟨S8x100000, .i32⟩
  | 106 => ⟨S8x100000, .i32⟩
  | 107 => ⟨S8x100000, .i32⟩
  | 108 => ⟨S_, .i32⟩
  | 109 => ⟨S8x100000, .i32⟩
  | 110 => ⟨S8x100000, .i32⟩
  | 111 => ⟨S_, .i32⟩
  | 112 => ⟨S8x100000, .i32⟩
  | 113 => ⟨S8x100000, .i32⟩
  | 114 => ⟨S8x100000, .i32⟩
  | 115 => ⟨S8x100000, .i32⟩
  | 116 => ⟨S8x100000, .i32⟩
  | 117 => ⟨S_, .i32⟩
  | 118 => ⟨S8x100000, .i32⟩
  | 119 => ⟨S8x100000, .i32⟩
  | 120 => ⟨S_, .i32⟩
  | 121 => ⟨S8x100000, .i32⟩
  | 122 => ⟨S8x100000, .i32⟩
  | 123 => ⟨S8x100000, .i32⟩
  | 124 => ⟨S8x100000, .i32⟩
  | 125 => ⟨S8x100000, .i32⟩
  | 126 => ⟨S_, .i32⟩
  | 127 => ⟨S8x100000, .i32⟩
  | _ => ⟨S8x1024, .f32⟩

abbrev hbmTy0_2 (i : Nat) : BufTy := match i % 128 with
  | 0 => ⟨S8x100000, .i32⟩
  | 1 => ⟨S_, .i32⟩
  | 2 => ⟨S8x100000, .i32⟩
  | 3 => ⟨S8x100000, .i32⟩
  | 4 => ⟨S8x100000, .i32⟩
  | 5 => ⟨S8x100000, .i32⟩
  | 6 => ⟨S8x100000, .i32⟩
  | 7 => ⟨S_, .i32⟩
  | 8 => ⟨S8x100000, .i32⟩
  | 9 => ⟨S8x100000, .i32⟩
  | 10 => ⟨S_, .i32⟩
  | 11 => ⟨S8x100000, .i32⟩
  | 12 => ⟨S8x100000, .i32⟩
  | 13 => ⟨S8x100000, .i32⟩
  | 14 => ⟨S8x100000, .i32⟩
  | 15 => ⟨S8x100000, .i32⟩
  | 16 => ⟨S8x100000, .i32⟩
  | 17 => ⟨S8x100000, .i32⟩
  | 18 => ⟨S8x100000, .i32⟩
  | 19 => ⟨S_, .i32⟩
  | 20 => ⟨S8x100000, .i32⟩
  | 21 => ⟨S8x100000, .i32⟩
  | 22 => ⟨S8x100000, .i32⟩
  | 23 => ⟨S_, .i32⟩
  | 24 => ⟨S8x100000, .i32⟩
  | 25 => ⟨S8x100000, .i32⟩
  | 26 => ⟨S_, .i32⟩
  | 27 => ⟨S8x100000, .i32⟩
  | 28 => ⟨S8x100000, .i32⟩
  | 29 => ⟨S8x100000, .f32⟩
  | 30 => ⟨S_, .f32⟩
  | 31 => ⟨S8x100000, .f32⟩
  | 32 => ⟨S8x100000, .f32⟩
  | 33 => ⟨S1x1, .f32⟩
  | 34 => ⟨S8x100000, .f32⟩
  | 35 => ⟨S8x100000, .f32⟩
  | 36 => ⟨S8x100000, .f32⟩
  | 37 => ⟨S8x100000, .f32⟩
  | 38 => ⟨S8x100000, .f32⟩
  | 39 => ⟨S8x100000, .f32⟩
  | 40 => ⟨S8x100000, .f32⟩
  | 41 => ⟨S8x100000, .f32⟩
  | 42 => ⟨S8x100000, .f32⟩
  | 43 => ⟨S8x100000, .f32⟩
  | 44 => ⟨S8x100000, .f32⟩
  | 45 => ⟨S8x100000, .i32⟩
  | 46 => ⟨S_, .f32⟩
  | 47 => ⟨S_, .i32⟩
  | 48 => ⟨S8, .f32⟩
  | 49 => ⟨S8, .i32⟩
  | 50 => ⟨S8x1, .i32⟩
  | _ => ⟨S8x1024, .f32⟩

abbrev hbmTy (i : Nat) : BufTy := match i / 128 with
  | 0 => hbmTy0_0 i
  | 1 => hbmTy0_1 i
  | 2 => hbmTy0_2 i
  | _ => ⟨S8x1024, .f32⟩

abbrev bufTy : (tb : Table) → Fin (tcTables nBuf tb) → BufTy
  | .hbm, ⟨i, _⟩ => hbmTy i
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_cst_0 : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_c : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_c_0 : Ref sig .tc := ⟨.hbm, 47, rfl⟩
abbrev main_call0_call0_v11 : Ref sig .tc := ⟨.hbm, 48, rfl⟩
abbrev main_call0_call0_v12 : Ref sig .tc := ⟨.hbm, 49, rfl⟩
abbrev main_call0_call0_v13 : Ref sig .tc := ⟨.hbm, 50, rfl⟩
abbrev main_call0_call0_c_1 : Ref sig .tc := ⟨.hbm, 51, rfl⟩
abbrev main_call0_call0_v14 : Ref sig .tc := ⟨.hbm, 52, rfl⟩
abbrev main_call0_call0_v15 : Ref sig .tc := ⟨.hbm, 53, rfl⟩
abbrev main_call0_call0_v16 : Ref sig .tc := ⟨.hbm, 54, rfl⟩
abbrev main_call0_call0_v17 : Ref sig .tc := ⟨.hbm, 55, rfl⟩
abbrev main_call0_call0_call0_v0 : Ref sig .tc := ⟨.hbm, 56, rfl⟩
abbrev main_call0_call0_call0_c : Ref sig .tc := ⟨.hbm, 57, rfl⟩
abbrev main_call0_call0_call0_v1 : Ref sig .tc := ⟨.hbm, 58, rfl⟩
abbrev main_call0_call0_call0_v2 : Ref sig .tc := ⟨.hbm, 59, rfl⟩
abbrev main_call0_call0_call0_v3 : Ref sig .tc := ⟨.hbm, 60, rfl⟩
abbrev main_call0_call0_call0_v4 : Ref sig .tc := ⟨.hbm, 61, rfl⟩
abbrev main_call0_call0_call0_v5 : Ref sig .tc := ⟨.hbm, 62, rfl⟩
abbrev main_call0_call0_call0_v6 : Ref sig .tc := ⟨.hbm, 63, rfl⟩
abbrev main_call0_call0_call0_c_0 : Ref sig .tc := ⟨.hbm, 64, rfl⟩
abbrev main_call0_call0_call0_v7 : Ref sig .tc := ⟨.hbm, 65, rfl⟩
abbrev main_call0_call0_call0_v8 : Ref sig .tc := ⟨.hbm, 66, rfl⟩
abbrev main_call0_call0_call0_c_1 : Ref sig .tc := ⟨.hbm, 67, rfl⟩
abbrev main_call0_call0_call0_v9 : Ref sig .tc := ⟨.hbm, 68, rfl⟩
abbrev main_call0_call0_call0_v10 : Ref sig .tc := ⟨.hbm, 69, rfl⟩
abbrev main_call0_call0_call0_v11 : Ref sig .tc := ⟨.hbm, 70, rfl⟩
abbrev main_call0_call0_call0_v12 : Ref sig .tc := ⟨.hbm, 71, rfl⟩
abbrev main_call0_call0_call0_v13 : Ref sig .tc := ⟨.hbm, 72, rfl⟩
abbrev main_call0_call0_call0_c_2 : Ref sig .tc := ⟨.hbm, 73, rfl⟩
abbrev main_call0_call0_call0_v14 : Ref sig .tc := ⟨.hbm, 74, rfl⟩
abbrev main_call0_call0_call0_v15 : Ref sig .tc := ⟨.hbm, 75, rfl⟩
abbrev main_call0_call0_call0_c_3 : Ref sig .tc := ⟨.hbm, 76, rfl⟩
abbrev main_call0_call0_call0_v16 : Ref sig .tc := ⟨.hbm, 77, rfl⟩
abbrev main_call0_call0_call0_v17 : Ref sig .tc := ⟨.hbm, 78, rfl⟩
abbrev main_call0_call0_call0_v18 : Ref sig .tc := ⟨.hbm, 79, rfl⟩
abbrev main_call0_call0_call0_v19 : Ref sig .tc := ⟨.hbm, 80, rfl⟩
abbrev main_call0_call0_call0_v20 : Ref sig .tc := ⟨.hbm, 81, rfl⟩
abbrev main_call0_call0_call0_c_4 : Ref sig .tc := ⟨.hbm, 82, rfl⟩
abbrev main_call0_call0_call0_v21 : Ref sig .tc := ⟨.hbm, 83, rfl⟩
abbrev main_call0_call0_call0_v22 : Ref sig .tc := ⟨.hbm, 84, rfl⟩
abbrev main_call0_call0_call0_c_5 : Ref sig .tc := ⟨.hbm, 85, rfl⟩
abbrev main_call0_call0_call0_v23 : Ref sig .tc := ⟨.hbm, 86, rfl⟩
abbrev main_call0_call0_call0_v24 : Ref sig .tc := ⟨.hbm, 87, rfl⟩
abbrev main_call0_call0_call0_v25 : Ref sig .tc := ⟨.hbm, 88, rfl⟩
abbrev main_call0_call0_call0_v26 : Ref sig .tc := ⟨.hbm, 89, rfl⟩
abbrev main_call0_call0_call0_v27 : Ref sig .tc := ⟨.hbm, 90, rfl⟩
abbrev main_call0_call0_call0_c_6 : Ref sig .tc := ⟨.hbm, 91, rfl⟩
abbrev main_call0_call0_call0_v28 : Ref sig .tc := ⟨.hbm, 92, rfl⟩
abbrev main_call0_call0_call0_v29 : Ref sig .tc := ⟨.hbm, 93, rfl⟩
abbrev main_call0_call0_call0_c_7 : Ref sig .tc := ⟨.hbm, 94, rfl⟩
abbrev main_call0_call0_call0_v30 : Ref sig .tc := ⟨.hbm, 95, rfl⟩
abbrev main_call0_call0_call0_v31 : Ref sig .tc := ⟨.hbm, 96, rfl⟩
abbrev main_call0_call0_call0_v32 : Ref sig .tc := ⟨.hbm, 97, rfl⟩
abbrev main_call0_call0_call0_v33 : Ref sig .tc := ⟨.hbm, 98, rfl⟩
abbrev main_call0_call0_call0_v34 : Ref sig .tc := ⟨.hbm, 99, rfl⟩
abbrev main_call0_call0_call0_v35 : Ref sig .tc := ⟨.hbm, 100, rfl⟩
abbrev main_call0_call0_call0_v36 : Ref sig .tc := ⟨.hbm, 101, rfl⟩
abbrev main_call0_call0_call0_v37 : Ref sig .tc := ⟨.hbm, 102, rfl⟩
abbrev main_call0_call0_call0_c_8 : Ref sig .tc := ⟨.hbm, 103, rfl⟩
abbrev main_call0_call0_call0_v38 : Ref sig .tc := ⟨.hbm, 104, rfl⟩
abbrev main_call0_call0_call0_v39 : Ref sig .tc := ⟨.hbm, 105, rfl⟩
abbrev main_call0_call0_call0_v40 : Ref sig .tc := ⟨.hbm, 106, rfl⟩
abbrev main_call0_call0_call0_c_9 : Ref sig .tc := ⟨.hbm, 107, rfl⟩
abbrev main_call0_call0_call0_v41 : Ref sig .tc := ⟨.hbm, 108, rfl⟩
abbrev main_call0_call0_call0_v42 : Ref sig .tc := ⟨.hbm, 109, rfl⟩
abbrev main_call0_call0_call0_c_10 : Ref sig .tc := ⟨.hbm, 110, rfl⟩
abbrev main_call0_call0_call0_v43 : Ref sig .tc := ⟨.hbm, 111, rfl⟩
abbrev main_call0_call0_call0_v44 : Ref sig .tc := ⟨.hbm, 112, rfl⟩
abbrev main_call0_call0_call0_v45 : Ref sig .tc := ⟨.hbm, 113, rfl⟩
abbrev main_call0_call0_call0_v46 : Ref sig .tc := ⟨.hbm, 114, rfl⟩
abbrev main_call0_call0_call0_v47 : Ref sig .tc := ⟨.hbm, 115, rfl⟩
abbrev main_call0_call0_call0_c_11 : Ref sig .tc := ⟨.hbm, 116, rfl⟩
abbrev main_call0_call0_call0_v48 : Ref sig .tc := ⟨.hbm, 117, rfl⟩
abbrev main_call0_call0_call0_v49 : Ref sig .tc := ⟨.hbm, 118, rfl⟩
abbrev main_call0_call0_call0_c_12 : Ref sig .tc := ⟨.hbm, 119, rfl⟩
abbrev main_call0_call0_call0_v50 : Ref sig .tc := ⟨.hbm, 120, rfl⟩
abbrev main_call0_call0_call0_v51 : Ref sig .tc := ⟨.hbm, 121, rfl⟩
abbrev main_call0_call0_call0_v52 : Ref sig .tc := ⟨.hbm, 122, rfl⟩
abbrev main_call0_call0_call0_v53 : Ref sig .tc := ⟨.hbm, 123, rfl⟩
abbrev main_call0_call0_call0_v54 : Ref sig .tc := ⟨.hbm, 124, rfl⟩
abbrev main_call0_call0_call0_c_13 : Ref sig .tc := ⟨.hbm, 125, rfl⟩
abbrev main_call0_call0_call0_v55 : Ref sig .tc := ⟨.hbm, 126, rfl⟩
abbrev main_call0_call0_call0_v56 : Ref sig .tc := ⟨.hbm, 127, rfl⟩
abbrev main_call0_call0_call0_c_14 : Ref sig .tc := ⟨.hbm, 128, rfl⟩
abbrev main_call0_call0_call0_v57 : Ref sig .tc := ⟨.hbm, 129, rfl⟩
abbrev main_call0_call0_call0_v58 : Ref sig .tc := ⟨.hbm, 130, rfl⟩
abbrev main_call0_call0_call0_v59 : Ref sig .tc := ⟨.hbm, 131, rfl⟩
abbrev main_call0_call0_call0_v60 : Ref sig .tc := ⟨.hbm, 132, rfl⟩
abbrev main_call0_call0_call0_v61 : Ref sig .tc := ⟨.hbm, 133, rfl⟩
abbrev main_call0_call0_call0_c_15 : Ref sig .tc := ⟨.hbm, 134, rfl⟩
abbrev main_call0_call0_call0_v62 : Ref sig .tc := ⟨.hbm, 135, rfl⟩
abbrev main_call0_call0_call0_v63 : Ref sig .tc := ⟨.hbm, 136, rfl⟩
abbrev main_call0_call0_call0_c_16 : Ref sig .tc := ⟨.hbm, 137, rfl⟩
abbrev main_call0_call0_call0_v64 : Ref sig .tc := ⟨.hbm, 138, rfl⟩
abbrev main_call0_call0_call0_v65 : Ref sig .tc := ⟨.hbm, 139, rfl⟩
abbrev main_call0_call0_call0_v66 : Ref sig .tc := ⟨.hbm, 140, rfl⟩
abbrev main_call0_call0_call0_v67 : Ref sig .tc := ⟨.hbm, 141, rfl⟩
abbrev main_call0_call0_call0_v68 : Ref sig .tc := ⟨.hbm, 142, rfl⟩
abbrev main_call0_call0_call0_v69 : Ref sig .tc := ⟨.hbm, 143, rfl⟩
abbrev main_call0_call0_call0_v70 : Ref sig .tc := ⟨.hbm, 144, rfl⟩
abbrev main_call0_call0_call0_v71 : Ref sig .tc := ⟨.hbm, 145, rfl⟩
abbrev main_call0_call0_call0_c_17 : Ref sig .tc := ⟨.hbm, 146, rfl⟩
abbrev main_call0_call0_call0_v72 : Ref sig .tc := ⟨.hbm, 147, rfl⟩
abbrev main_call0_call0_call0_v73 : Ref sig .tc := ⟨.hbm, 148, rfl⟩
abbrev main_call0_call0_call0_v74 : Ref sig .tc := ⟨.hbm, 149, rfl⟩
abbrev main_call0_call0_call0_c_18 : Ref sig .tc := ⟨.hbm, 150, rfl⟩
abbrev main_call0_call0_call0_v75 : Ref sig .tc := ⟨.hbm, 151, rfl⟩
abbrev main_call0_call0_call0_v76 : Ref sig .tc := ⟨.hbm, 152, rfl⟩
abbrev main_call0_call0_call0_c_19 : Ref sig .tc := ⟨.hbm, 153, rfl⟩
abbrev main_call0_call0_call0_v77 : Ref sig .tc := ⟨.hbm, 154, rfl⟩
abbrev main_call0_call0_call0_v78 : Ref sig .tc := ⟨.hbm, 155, rfl⟩
abbrev main_call0_call0_call0_v79 : Ref sig .tc := ⟨.hbm, 156, rfl⟩
abbrev main_call0_call0_call0_v80 : Ref sig .tc := ⟨.hbm, 157, rfl⟩
abbrev main_call0_call0_call0_v81 : Ref sig .tc := ⟨.hbm, 158, rfl⟩
abbrev main_call0_call0_call0_c_20 : Ref sig .tc := ⟨.hbm, 159, rfl⟩
abbrev main_call0_call0_call0_v82 : Ref sig .tc := ⟨.hbm, 160, rfl⟩
abbrev main_call0_call0_call0_v83 : Ref sig .tc := ⟨.hbm, 161, rfl⟩
abbrev main_call0_call0_call0_c_21 : Ref sig .tc := ⟨.hbm, 162, rfl⟩
abbrev main_call0_call0_call0_v84 : Ref sig .tc := ⟨.hbm, 163, rfl⟩
abbrev main_call0_call0_call0_v85 : Ref sig .tc := ⟨.hbm, 164, rfl⟩
abbrev main_call0_call0_call0_v86 : Ref sig .tc := ⟨.hbm, 165, rfl⟩
abbrev main_call0_call0_call0_v87 : Ref sig .tc := ⟨.hbm, 166, rfl⟩
abbrev main_call0_call0_call0_v88 : Ref sig .tc := ⟨.hbm, 167, rfl⟩
abbrev main_call0_call0_call0_c_22 : Ref sig .tc := ⟨.hbm, 168, rfl⟩
abbrev main_call0_call0_call0_v89 : Ref sig .tc := ⟨.hbm, 169, rfl⟩
abbrev main_call0_call0_call0_v90 : Ref sig .tc := ⟨.hbm, 170, rfl⟩
abbrev main_call0_call0_call0_c_23 : Ref sig .tc := ⟨.hbm, 171, rfl⟩
abbrev main_call0_call0_call0_v91 : Ref sig .tc := ⟨.hbm, 172, rfl⟩
abbrev main_call0_call0_call0_v92 : Ref sig .tc := ⟨.hbm, 173, rfl⟩
abbrev main_call0_call0_call0_v93 : Ref sig .tc := ⟨.hbm, 174, rfl⟩
abbrev main_call0_call0_call0_v94 : Ref sig .tc := ⟨.hbm, 175, rfl⟩
abbrev main_call0_call0_call0_v95 : Ref sig .tc := ⟨.hbm, 176, rfl⟩
abbrev main_call0_call0_call0_c_24 : Ref sig .tc := ⟨.hbm, 177, rfl⟩
abbrev main_call0_call0_call0_v96 : Ref sig .tc := ⟨.hbm, 178, rfl⟩
abbrev main_call0_call0_call0_v97 : Ref sig .tc := ⟨.hbm, 179, rfl⟩
abbrev main_call0_call0_call0_c_25 : Ref sig .tc := ⟨.hbm, 180, rfl⟩
abbrev main_call0_call0_call0_v98 : Ref sig .tc := ⟨.hbm, 181, rfl⟩
abbrev main_call0_call0_call0_v99 : Ref sig .tc := ⟨.hbm, 182, rfl⟩
abbrev main_call0_call0_call0_v100 : Ref sig .tc := ⟨.hbm, 183, rfl⟩
abbrev main_call0_call0_call0_v101 : Ref sig .tc := ⟨.hbm, 184, rfl⟩
abbrev main_call0_call0_call0_v102 : Ref sig .tc := ⟨.hbm, 185, rfl⟩
abbrev main_call0_call0_call0_v103 : Ref sig .tc := ⟨.hbm, 186, rfl⟩
abbrev main_call0_call0_call0_v104 : Ref sig .tc := ⟨.hbm, 187, rfl⟩
abbrev main_call0_call0_call0_v105 : Ref sig .tc := ⟨.hbm, 188, rfl⟩
abbrev main_call0_call0_call0_c_26 : Ref sig .tc := ⟨.hbm, 189, rfl⟩
abbrev main_call0_call0_call0_v106 : Ref sig .tc := ⟨.hbm, 190, rfl⟩
abbrev main_call0_call0_call0_v107 : Ref sig .tc := ⟨.hbm, 191, rfl⟩
abbrev main_call0_call0_call0_v108 : Ref sig .tc := ⟨.hbm, 192, rfl⟩
abbrev main_call0_call0_call0_c_27 : Ref sig .tc := ⟨.hbm, 193, rfl⟩
abbrev main_call0_call0_call0_v109 : Ref sig .tc := ⟨.hbm, 194, rfl⟩
abbrev main_call0_call0_call0_v110 : Ref sig .tc := ⟨.hbm, 195, rfl⟩
abbrev main_call0_call0_call0_c_28 : Ref sig .tc := ⟨.hbm, 196, rfl⟩
abbrev main_call0_call0_call0_v111 : Ref sig .tc := ⟨.hbm, 197, rfl⟩
abbrev main_call0_call0_call0_v112 : Ref sig .tc := ⟨.hbm, 198, rfl⟩
abbrev main_call0_call0_call0_v113 : Ref sig .tc := ⟨.hbm, 199, rfl⟩
abbrev main_call0_call0_call0_v114 : Ref sig .tc := ⟨.hbm, 200, rfl⟩
abbrev main_call0_call0_call0_v115 : Ref sig .tc := ⟨.hbm, 201, rfl⟩
abbrev main_call0_call0_call0_c_29 : Ref sig .tc := ⟨.hbm, 202, rfl⟩
abbrev main_call0_call0_call0_v116 : Ref sig .tc := ⟨.hbm, 203, rfl⟩
abbrev main_call0_call0_call0_v117 : Ref sig .tc := ⟨.hbm, 204, rfl⟩
abbrev main_call0_call0_call0_c_30 : Ref sig .tc := ⟨.hbm, 205, rfl⟩
abbrev main_call0_call0_call0_v118 : Ref sig .tc := ⟨.hbm, 206, rfl⟩
abbrev main_call0_call0_call0_v119 : Ref sig .tc := ⟨.hbm, 207, rfl⟩
abbrev main_call0_call0_call0_v120 : Ref sig .tc := ⟨.hbm, 208, rfl⟩
abbrev main_call0_call0_call0_v121 : Ref sig .tc := ⟨.hbm, 209, rfl⟩
abbrev main_call0_call0_call0_v122 : Ref sig .tc := ⟨.hbm, 210, rfl⟩
abbrev main_call0_call0_call0_c_31 : Ref sig .tc := ⟨.hbm, 211, rfl⟩
abbrev main_call0_call0_call0_v123 : Ref sig .tc := ⟨.hbm, 212, rfl⟩
abbrev main_call0_call0_call0_v124 : Ref sig .tc := ⟨.hbm, 213, rfl⟩
abbrev main_call0_call0_call0_c_32 : Ref sig .tc := ⟨.hbm, 214, rfl⟩
abbrev main_call0_call0_call0_v125 : Ref sig .tc := ⟨.hbm, 215, rfl⟩
abbrev main_call0_call0_call0_v126 : Ref sig .tc := ⟨.hbm, 216, rfl⟩
abbrev main_call0_call0_call0_v127 : Ref sig .tc := ⟨.hbm, 217, rfl⟩
abbrev main_call0_call0_call0_v128 : Ref sig .tc := ⟨.hbm, 218, rfl⟩
abbrev main_call0_call0_call0_v129 : Ref sig .tc := ⟨.hbm, 219, rfl⟩
abbrev main_call0_call0_call0_c_33 : Ref sig .tc := ⟨.hbm, 220, rfl⟩
abbrev main_call0_call0_call0_v130 : Ref sig .tc := ⟨.hbm, 221, rfl⟩
abbrev main_call0_call0_call0_v131 : Ref sig .tc := ⟨.hbm, 222, rfl⟩
abbrev main_call0_call0_call0_c_34 : Ref sig .tc := ⟨.hbm, 223, rfl⟩
abbrev main_call0_call0_call0_v132 : Ref sig .tc := ⟨.hbm, 224, rfl⟩
abbrev main_call0_call0_call0_v133 : Ref sig .tc := ⟨.hbm, 225, rfl⟩
abbrev main_call0_call0_call0_v134 : Ref sig .tc := ⟨.hbm, 226, rfl⟩
abbrev main_call0_call0_call0_v135 : Ref sig .tc := ⟨.hbm, 227, rfl⟩
abbrev main_call0_call0_call0_v136 : Ref sig .tc := ⟨.hbm, 228, rfl⟩
abbrev main_call0_call0_call0_v137 : Ref sig .tc := ⟨.hbm, 229, rfl⟩
abbrev main_call0_call0_call0_v138 : Ref sig .tc := ⟨.hbm, 230, rfl⟩
abbrev main_call0_call0_call0_v139 : Ref sig .tc := ⟨.hbm, 231, rfl⟩
abbrev main_call0_call0_call0_c_35 : Ref sig .tc := ⟨.hbm, 232, rfl⟩
abbrev main_call0_call0_call0_v140 : Ref sig .tc := ⟨.hbm, 233, rfl⟩
abbrev main_call0_call0_call0_v141 : Ref sig .tc := ⟨.hbm, 234, rfl⟩
abbrev main_call0_call0_call0_v142 : Ref sig .tc := ⟨.hbm, 235, rfl⟩
abbrev main_call0_call0_call0_c_36 : Ref sig .tc := ⟨.hbm, 236, rfl⟩
abbrev main_call0_call0_call0_v143 : Ref sig .tc := ⟨.hbm, 237, rfl⟩
abbrev main_call0_call0_call0_v144 : Ref sig .tc := ⟨.hbm, 238, rfl⟩
abbrev main_call0_call0_call0_c_37 : Ref sig .tc := ⟨.hbm, 239, rfl⟩
abbrev main_call0_call0_call0_v145 : Ref sig .tc := ⟨.hbm, 240, rfl⟩
abbrev main_call0_call0_call0_v146 : Ref sig .tc := ⟨.hbm, 241, rfl⟩
abbrev main_call0_call0_call0_v147 : Ref sig .tc := ⟨.hbm, 242, rfl⟩
abbrev main_call0_call0_call0_v148 : Ref sig .tc := ⟨.hbm, 243, rfl⟩
abbrev main_call0_call0_call0_v149 : Ref sig .tc := ⟨.hbm, 244, rfl⟩
abbrev main_call0_call0_call0_c_38 : Ref sig .tc := ⟨.hbm, 245, rfl⟩
abbrev main_call0_call0_call0_v150 : Ref sig .tc := ⟨.hbm, 246, rfl⟩
abbrev main_call0_call0_call0_v151 : Ref sig .tc := ⟨.hbm, 247, rfl⟩
abbrev main_call0_call0_call0_c_39 : Ref sig .tc := ⟨.hbm, 248, rfl⟩
abbrev main_call0_call0_call0_v152 : Ref sig .tc := ⟨.hbm, 249, rfl⟩
abbrev main_call0_call0_call0_v153 : Ref sig .tc := ⟨.hbm, 250, rfl⟩
abbrev main_call0_call0_call0_v154 : Ref sig .tc := ⟨.hbm, 251, rfl⟩
abbrev main_call0_call0_call0_v155 : Ref sig .tc := ⟨.hbm, 252, rfl⟩
abbrev main_call0_call0_call0_v156 : Ref sig .tc := ⟨.hbm, 253, rfl⟩
abbrev main_call0_call0_call0_c_40 : Ref sig .tc := ⟨.hbm, 254, rfl⟩
abbrev main_call0_call0_call0_v157 : Ref sig .tc := ⟨.hbm, 255, rfl⟩
abbrev main_call0_call0_call0_v158 : Ref sig .tc := ⟨.hbm, 256, rfl⟩
abbrev main_call0_call0_call0_c_41 : Ref sig .tc := ⟨.hbm, 257, rfl⟩
abbrev main_call0_call0_call0_v159 : Ref sig .tc := ⟨.hbm, 258, rfl⟩
abbrev main_call0_call0_call0_v160 : Ref sig .tc := ⟨.hbm, 259, rfl⟩
abbrev main_call0_call0_call0_v161 : Ref sig .tc := ⟨.hbm, 260, rfl⟩
abbrev main_call0_call0_call0_v162 : Ref sig .tc := ⟨.hbm, 261, rfl⟩
abbrev main_call0_call0_call0_v163 : Ref sig .tc := ⟨.hbm, 262, rfl⟩
abbrev main_call0_call0_call0_c_42 : Ref sig .tc := ⟨.hbm, 263, rfl⟩
abbrev main_call0_call0_call0_v164 : Ref sig .tc := ⟨.hbm, 264, rfl⟩
abbrev main_call0_call0_call0_v165 : Ref sig .tc := ⟨.hbm, 265, rfl⟩
abbrev main_call0_call0_call0_c_43 : Ref sig .tc := ⟨.hbm, 266, rfl⟩
abbrev main_call0_call0_call0_v166 : Ref sig .tc := ⟨.hbm, 267, rfl⟩
abbrev main_call0_call0_call0_v167 : Ref sig .tc := ⟨.hbm, 268, rfl⟩
abbrev main_call0_call0_call0_v168 : Ref sig .tc := ⟨.hbm, 269, rfl⟩
abbrev main_call0_call0_call0_v169 : Ref sig .tc := ⟨.hbm, 270, rfl⟩
abbrev main_call0_call0_call0_v170 : Ref sig .tc := ⟨.hbm, 271, rfl⟩
abbrev main_call0_call0_v18_0 : Ref sig .tc := ⟨.hbm, 272, rfl⟩
abbrev main_call0_call0_call0_v172 : Ref sig .tc := ⟨.hbm, 273, rfl⟩
abbrev main_call0_call0_call0_v173 : Ref sig .tc := ⟨.hbm, 274, rfl⟩
abbrev main_call0_call0_call0_c_44 : Ref sig .tc := ⟨.hbm, 275, rfl⟩
abbrev main_call0_call0_call0_v174 : Ref sig .tc := ⟨.hbm, 276, rfl⟩
abbrev main_call0_call0_v18_1 : Ref sig .tc := ⟨.hbm, 277, rfl⟩
abbrev main_call0_call0_v19 : Ref sig .tc := ⟨.hbm, 278, rfl⟩
abbrev main_call0_call0_c_2 : Ref sig .tc := ⟨.hbm, 279, rfl⟩
abbrev main_call0_call0_v20 : Ref sig .tc := ⟨.hbm, 280, rfl⟩
abbrev main_call0_call0_v21 : Ref sig .tc := ⟨.hbm, 281, rfl⟩
abbrev main_call0_call0_c_3 : Ref sig .tc := ⟨.hbm, 282, rfl⟩
abbrev main_call0_call0_v22 : Ref sig .tc := ⟨.hbm, 283, rfl⟩
abbrev main_call0_call0_v23 : Ref sig .tc := ⟨.hbm, 284, rfl⟩
abbrev main_call0_call0_v24 : Ref sig .tc := ⟨.hbm, 285, rfl⟩
abbrev main_call0_call0_cst : Ref sig .tc := ⟨.hbm, 286, rfl⟩
abbrev main_call0_call0_v25 : Ref sig .tc := ⟨.hbm, 287, rfl⟩
abbrev main_call0_call0_v26 : Ref sig .tc := ⟨.hbm, 288, rfl⟩
abbrev main_call0_call0_v27 : Ref sig .tc := ⟨.hbm, 289, rfl⟩
abbrev main_call0_call0_v28 : Ref sig .tc := ⟨.hbm, 290, rfl⟩
abbrev main_call0_call0_v29 : Ref sig .tc := ⟨.hbm, 291, rfl⟩
abbrev main_call0_call0_v30 : Ref sig .tc := ⟨.hbm, 292, rfl⟩
abbrev main_call0_call0_v31 : Ref sig .tc := ⟨.hbm, 293, rfl⟩
abbrev main_call0_call0_v32 : Ref sig .tc := ⟨.hbm, 294, rfl⟩
abbrev main_call0_v0 : Ref sig .tc := ⟨.hbm, 295, rfl⟩
abbrev main_call0_v1 : Ref sig .tc := ⟨.hbm, 296, rfl⟩
abbrev main_call0_v2 : Ref sig .tc := ⟨.hbm, 297, rfl⟩
abbrev main_call0_v3 : Ref sig .tc := ⟨.hbm, 298, rfl⟩
abbrev main_v24 : Ref sig .tc := ⟨.hbm, 299, rfl⟩
abbrev main_v25 : Ref sig .tc := ⟨.hbm, 300, rfl⟩
abbrev main_call1_v0 : Ref sig .tc := ⟨.hbm, 301, rfl⟩
abbrev main_call1_cst : Ref sig .tc := ⟨.hbm, 302, rfl⟩
abbrev main_call1_c : Ref sig .tc := ⟨.hbm, 303, rfl⟩
abbrev main_call1_v1_0 : Ref sig .tc := ⟨.hbm, 304, rfl⟩
abbrev main_v26 : Ref sig .tc := ⟨.hbm, 305, rfl⟩
abbrev main_v27 : Ref sig .tc := ⟨.hbm, 306, rfl⟩

abbrev nD : Nat := 1
abbrev τ : Topo := Topo.v7x

variable {F : FTy → Type} [FloatOps F]
-- ==== Proof.RefLine.lean ====
/- The reference's program as one straight line of host operations, cut where the proof reads it: the softmax
   (`headOps`), the key of the noise (`keyOps`), its logarithm, the noise (`noiseLine`), the sum, the arg max. -/
module

public import proofs.«01_k».proof.ReferenceIdeal
public import proofs.«01_k».proof.Proof.Gen.ReferenceIdeal
public import Idealize.ShloMosaic.Lib.StableHlo.RunHlo

@[expose] public section

set_option maxRecDepth 4000

noncomputable section

namespace Cert.Proof.Ref

open Idealize.ShloMosaic Idealize.ShloMosaic.StableHlo Idealize.SL.Sem
open Cert.ReferenceIdeal Cert.ReferenceIdeal.Facts₀

attribute [local instance] Cert.ReferenceIdeal.Gen.facts

variable {F : FTy → Type} [FloatOps F]

/-- Two lines one after the other. -/
theorem IsSeq.append {nD : Nat} {τ : Topo} {sig : RefSig} {Val : EltTy → Type} {Λ : Labels}
    {p k : Prog (TpuEff nD τ sig Val Λ .tc) PUnit} {l l' : List (HloOp τ sig Val)}
    (h : IsSeq p l) (h' : IsSeq k l') : IsSeq (p >>= fun _ => k) (l ++ l') := by
  unfold IsSeq at *; rw [h, h', seq_append]

/-- The scores, their row maximum, and the softmax. -/
def headOps : List (HloOp τ sig (Elt F)) :=
  [ unary main_arg1 main_v0 ((transpose S1024x100000 [1, 0] · transposes_S100000x1024_S1024x100000_1_0) : (⟨S100000x1024, .f32⟩ : BufTy).Contents (Elt F) → (⟨S1024x100000, .f32⟩ : BufTy).Contents (Elt F)),
    binary main_arg0 main_v0 main_v1 ((fun l r => Host.dotGeneral dot_S8x1024_S1024x100000_S8x100000_1_0_0_1_n_n none l r) : (⟨S8x1024, .f32⟩ : BufTy).Contents (Elt F) → (⟨S1024x100000, .f32⟩ : BufTy).Contents (Elt F) → (⟨S8x100000, .f32⟩ : BufTy).Contents (Elt F)),
    unary main_arg2 main_v2 (broadcastInDim S1x100000 ![1] bcast_S100000_S1x100000_1 : (⟨S100000, .f32⟩ : BufTy).Contents (Elt F) → (⟨S1x100000, .f32⟩ : BufTy).Contents (Elt F)),
    unary main_v2 main_v3 (broadcastInDim S8x100000 ![0, 1] bcast_S1x100000_S8x100000_0_1 : (⟨S1x100000, .f32⟩ : BufTy).Contents (Elt F) → (⟨S8x100000, .f32⟩ : BufTy).Contents (Elt F)),
    binary main_v1 main_v3 main_v4 (addf : (⟨S8x100000, .f32⟩ : BufTy).Contents (Elt F) → (⟨S8x100000, .f32⟩ : BufTy).Contents (Elt F) → (⟨S8x100000, .f32⟩ : BufTy).Contents (Elt F)),
    nullary main_cst (constant S_ .f32 0xFF800000#32),
    binary main_v4 main_cst main_v5 ((fun x v => Host.reduce FloatOps.maximumf x v reducesTo_S8x100000_S8_d1 h_S_) : (⟨S8x100000, .f32⟩ : BufTy).Contents (Elt F) → (⟨S_, .f32⟩ : BufTy).Contents (Elt F) → (⟨S8, .f32⟩ : BufTy).Contents (Elt F)),
    nullary main_cst_0 (constant S_ .f32 0xFF800000#32),
    unary main_cst_0 main_v6 (broadcastInDim S8 ![] bcast_S_S8 : (⟨S_, .f32⟩ : BufTy).Contents (Elt F) → (⟨S8, .f32⟩ : BufTy).Contents (Elt F)),
    binary main_v6 main_v5 main_v7 (maximumf : (⟨S8, .f32⟩ : BufTy).Contents (Elt F) → (⟨S8, .f32⟩ : BufTy).Contents (Elt F) → (⟨S8, .f32⟩ : BufTy).Contents (Elt F)),
    unary main_v7 main_v8 (broadcastInDim S8x1 ![0] bcast_S8_S8x1_0 : (⟨S8, .f32⟩ : BufTy).Contents (Elt F) → (⟨S8x1, .f32⟩ : BufTy).Contents (Elt F)),
    unary main_v8 main_v9 (broadcastInDim S8x100000 ![0, 1] bcast_S8x1_S8x100000_0_1 : (⟨S8x1, .f32⟩ : BufTy).Contents (Elt F) → (⟨S8x100000, .f32⟩ : BufTy).Contents (Elt F)),
    binary main_v4 main_v9 main_v10 (subf : (⟨S8x100000, .f32⟩ : BufTy).Contents (Elt F) → (⟨S8x100000, .f32⟩ : BufTy).Contents (Elt F) → (⟨S8x100000, .f32⟩ : BufTy).Contents (Elt F)),
    unary main_v10 main_v11 (Host.exp : (⟨S8x100000, .f32⟩ : BufTy).Contents (Elt F) → (⟨S8x100000, .f32⟩ : BufTy).Contents (Elt F)),
    nullary main_cst_1 (constant S_ .f32 0x00000000#32),
    binary main_v11 main_cst_1 main_v12 ((fun x v => Host.reduceAdd x v reducesTo_S8x100000_S8_d1 h_S_) : (⟨S8x100000, .f32⟩ : BufTy).Contents (Elt F) → (⟨S_, .f32⟩ : BufTy).Contents (Elt F) → (⟨S8, .f32⟩ : BufTy).Contents (Elt F)),
    unary main_v12 main_v13 (broadcastInDim S8x1 ![0] bcast_S8_S8x1_0 : (⟨S8, .f32⟩ : BufTy).Contents (Elt F) → (⟨S8x1, .f32⟩ : BufTy).Contents (Elt F)),
    unary main_v13 main_v14 (broadcastInDim S8x100000 ![0, 1] bcast_S8x1_S8x100000_0_1 : (⟨S8x1, .f32⟩ : BufTy).Contents (Elt F) → (⟨S8x100000, .f32⟩ : BufTy).Contents (Elt F)),
    binary main_v11 main_v14 main_v15 (Host.divf : (⟨S8x100000, .f32⟩ : BufTy).Contents (Elt F) → (⟨S8x100000, .f32⟩ : BufTy).Contents (Elt F) → (⟨S8x100000, .f32⟩ : BufTy).Contents (Elt F)) ]

/-- The key of the noise. -/
def keyOps : List (HloOp τ sig (Elt F)) :=
  [ TRef.nullary (.of main_c : TRef sig ⟨S_, .i32⟩) (constantI S_ 32 42#32),
    TRef.nullary (.of main_c_2 : TRef sig ⟨S_, .i32⟩) (constantI S_ 32 32#32),
    TRef.binary (.of main_c : TRef sig ⟨S_, .i32⟩) (.of main_c_2 : TRef sig ⟨S_, .i32⟩) (.of main_v16 : TRef sig ⟨S_, .i32⟩) (Host.shrui),
    TRef.unary (.of main_v16 : TRef sig ⟨S_, .i32⟩) (.of main_v17 : TRef sig ⟨S_, .i32⟩) (id),
    TRef.unary (.of main_v17 : TRef sig ⟨S_, .i32⟩) (.of main_v18 : TRef sig ⟨S1, .i32⟩) (broadcastInDim S1 ![] bcast_S_S1),
    TRef.nullary (.of main_c_3 : TRef sig ⟨S_, .i32⟩) (constantI S_ 32 4294967295#32),
    TRef.binary (.of main_c : TRef sig ⟨S_, .i32⟩) (.of main_c_3 : TRef sig ⟨S_, .i32⟩) (.of main_v19 : TRef sig ⟨S_, .i32⟩) (andi),
    TRef.unary (.of main_v19 : TRef sig ⟨S_, .i32⟩) (.of main_v20 : TRef sig ⟨S_, .i32⟩) (id),
    TRef.unary (.of main_v20 : TRef sig ⟨S_, .i32⟩) (.of main_v21 : TRef sig ⟨S1, .i32⟩) (broadcastInDim S1 ![] bcast_S_S1),
    TRef.binary (.of main_v18 : TRef sig ⟨S1, .i32⟩) (.of main_v21 : TRef sig ⟨S1, .i32⟩) (.of main_v22 : TRef sig ⟨S2, .i32⟩) ((fun a b => concatenate S2 0 [⟨S1, a⟩, ⟨S1, b⟩] concatenates_S1_S1_S2_d0)) ]

/-- The logarithm of the softmax. -/
def logOps : List (HloOp τ sig (Elt F)) :=
  [ unary main_v15 main_v23 (Host.log : (⟨S8x100000, .f32⟩ : BufTy).Contents (Elt F) → (⟨S8x100000, .f32⟩ : BufTy).Contents (Elt F)) ]

/-- The noise added. -/
def sumOps : List (HloOp τ sig (Elt F)) :=
  [ binary main_v24 main_v23 main_v25 (addf : (⟨S8x100000, .f32⟩ : BufTy).Contents (Elt F) → (⟨S8x100000, .f32⟩ : BufTy).Contents (Elt F) → (⟨S8x100000, .f32⟩ : BufTy).Contents (Elt F)) ]

/-- The column of the winners. -/
def lastOps : List (HloOp τ sig (Elt F)) :=
  [ unary main_v26 main_v27 (broadcastInDim S8x1 ![0] bcast_S8_S8x1_0 : (⟨S8, .i32⟩ : BufTy).Contents (Elt F) → (⟨S8x1, .i32⟩ : BufTy).Contents (Elt F)) ]

/-- The four stretches of the generator's rounds. -/
def rounds0 (a b : TRef sig ⟨S_, .i32⟩) (x y : TRef sig ⟨S8x100000, .i32⟩) (φ : fn_threefry2x32.Bufs) :
    {l : List (HloOp τ sig (Elt F)) // IsSeq (fn_threefry2x32.body_part0 (F := F) a b x y φ) l} := by
  apply Subtype.mk; unfold fn_threefry2x32.body_part0; hlo_seq

def rounds1 (a b : TRef sig ⟨S_, .i32⟩) (x y : TRef sig ⟨S8x100000, .i32⟩) (φ : fn_threefry2x32.Bufs) :
    {l : List (HloOp τ sig (Elt F)) // IsSeq (fn_threefry2x32.body_part1 (F := F) a b x y φ) l} := by
  apply Subtype.mk; unfold fn_threefry2x32.body_part1; hlo_seq

def rounds2 (a b : TRef sig ⟨S_, .i32⟩) (x y : TRef sig ⟨S8x100000, .i32⟩) (φ : fn_threefry2x32.Bufs) :
    {l : List (HloOp τ sig (Elt F)) // IsSeq (fn_threefry2x32.body_part2 (F := F) a b x y φ) l} := by
  apply Subtype.mk; unfold fn_threefry2x32.body_part2; hlo_seq

def rounds3 (a b : TRef sig ⟨S_, .i32⟩) (x y : TRef sig ⟨S8x100000, .i32⟩) (φ : fn_threefry2x32.Bufs) :
    {l : List (HloOp τ sig (Elt F)) // IsSeq (fn_threefry2x32.body_part3 (F := F) a b x y φ) l} := by
  apply Subtype.mk; unfold fn_threefry2x32.body_part3; hlo_seq

/-- The generator. -/
def roundsLine (a b : TRef sig ⟨S_, .i32⟩) (x y : TRef sig ⟨S8x100000, .i32⟩) (φ : fn_threefry2x32.Bufs) :
    {l : List (HloOp τ sig (Elt F)) // IsSeq (fn_threefry2x32.body (F := F) a b x y φ) l} :=
  ⟨(rounds0 a b x y φ).1 ++ ((rounds1 a b x y φ).1 ++ ((rounds2 a b x y φ).1 ++ (rounds3 a b x y φ).1)),
    IsSeq.append (rounds0 a b x y φ).2 (IsSeq.append (rounds1 a b x y φ).2 (IsSeq.append (rounds2 a b x y φ).2 (rounds3 a b x y φ).2))⟩

/-- The uniform numbers. -/
def uniformLine (a : TRef sig ⟨S2, .i32⟩) (b c : TRef sig ⟨S_, .f32⟩) (φ : fn_uniform.Bufs) :
    {l : List (HloOp τ sig (Elt F)) // IsSeq (fn_uniform.body (F := F) a b c φ) l} := by
  apply Subtype.mk; unfold fn_uniform.body
  repeat first | exact IsSeq.nil | apply IsSeq.cons | apply IsSeq.append (roundsLine _ _ _ _ _).2

/-- The noise. -/
def noiseLine (a : TRef sig ⟨S2, .i32⟩) (φ : fn_gumbel.Bufs) :
    {l : List (HloOp τ sig (Elt F)) // IsSeq (fn_gumbel.body (F := F) a φ) l} := by
  apply Subtype.mk; unfold fn_gumbel.body
  repeat first | exact IsSeq.nil | apply IsSeq.cons | apply IsSeq.append (uniformLine _ _ _ _).2

/-- The arg max. -/
def argmaxLine (a : TRef sig ⟨S8x100000, .f32⟩) (φ : fn_argmax.Bufs) :
    {l : List (HloOp τ sig (Elt F)) // IsSeq (fn_argmax.body (F := F) a φ) l} := by
  apply Subtype.mk; unfold fn_argmax.body; hlo_seq

/-- Up to the noise. -/
def toNoise : List (HloOp τ sig (Elt F)) :=
  headOps ++ (keyOps ++ (logOps ++ (noiseLine (.of main_v22) main_call0).1))

/-- From the noise on. -/
def fromNoise : List (HloOp τ sig (Elt F)) :=
  sumOps ++ ((argmaxLine (.of main_v25) main_call1).1 ++ lastOps)

/-- The reference's program is these two lines. -/
theorem main_isSeq (d : Dev nD) : IsSeq (main (F := F) d) (toNoise ++ fromNoise) := by
  unfold main toNoise fromNoise headOps keyOps logOps sumOps lastOps
  simp only [List.append_assoc, List.cons_append, List.nil_append]
  repeat first | exact IsSeq.nil | apply IsSeq.cons | apply IsSeq.append (noiseLine _ _).2 | apply IsSeq.append (argmaxLine _ _).2

end Cert.Proof.Ref

end
-- ==== Proof.RefRun.lean ====
/- The reference's run: every buffer ends at what the line of operations leaves in it, and the arguments stay. -/
module

public import proofs.«01_k».proof.Proof.RefLine
public import Idealize.ShloMosaic.Lib.StableHlo.RunRead
public import Idealize.ShloMosaic.Lib.Claim
public import Idealize.ShloMosaic.PureOps.Ideal

@[expose] public section

set_option maxRecDepth 8000

noncomputable section

namespace Cert.Proof.Ref

open Idealize.ShloMosaic Idealize.ShloMosaic.StableHlo Idealize.SL.Sem
open Cert.ReferenceIdeal Cert.ReferenceIdeal.Facts₀

variable {F : FTy → Type} [FloatOps F]

/-- A line of ordinary operations, each of which writes the one buffer listed for it. -/
inductive Plain : List (HloOp τ sig (Elt F)) → List (Ref sig .tc) → Prop
  | nil : Plain [] []
  | cons {op : HloOp τ sig (Elt F)} {ops : List (HloOp τ sig (Elt F))} {y : Ref sig .tc} {W : List (Ref sig .tc)}
      (hb : op.bufs ⊆ tcRefs τ sig) (hf : op.fresh = ∅) (hw : op.writes = {Proc.devRef .tc y}) (h : Plain ops W) :
      Plain (op :: ops) (y :: W)

theorem Plain.append {l l' : List (HloOp τ sig (Elt F))} {W W' : List (Ref sig .tc)} (h : Plain l W) (h' : Plain l' W') :
    Plain (l ++ l') (W ++ W') := by
  induction h with
  | nil => exact h'
  | cons hb hf hw _ ih => exact .cons hb hf hw ih

theorem Plain.bufs {l : List (HloOp τ sig (Elt F))} {W : List (Ref sig .tc)} (h : Plain l W) :
    l.Forall fun op => op.bufs ⊆ tcRefs τ sig := by
  induction h with
  | nil => trivial
  | cons hb _ _ _ ih => exact (List.forall_cons ..).2 ⟨hb, ih⟩

theorem Plain.fresh {l : List (HloOp τ sig (Elt F))} {W : List (Ref sig .tc)} (h : Plain l W) :
    ∀ op ∈ l, op.fresh = ∅ := by
  induction h with
  | nil => simp
  | cons _ hf _ _ ih => exact List.forall_mem_cons.2 ⟨hf, ih⟩

/-- A buffer that is not listed keeps its contents. -/
theorem Plain.keeps {l : List (HloOp τ sig (Elt F))} {W : List (Ref sig .tc)} (h : Plain l W) {r : Ref sig .tc}
    (hr : r ∉ W) (V : Valuation τ sig (Elt F)) : after l V (Proc.devRef .tc r) = V (Proc.devRef .tc r) := by
  induction h generalizing V with
  | nil => rfl
  | cons hb hf hw _ ih =>
    rw [after_cons, ih (List.not_mem_of_not_mem_cons hr)]
    exact result_of_writes_ne _ _ _ _ hw (List.ne_of_not_mem_cons hr)

section Builders

variable {l : List (HloOp τ sig (Elt F))} {W : List (Ref sig .tc)}

theorem Plain.nullary {y : Ref sig .tc} {v : y.ty.Contents (Elt F)} {hy} (h : Plain l W) :
    Plain (StableHlo.nullary y v hy :: l) (y :: W) := .cons (nullary_bufs_sub ..) rfl (nullary_writes ..) h

theorem Plain.unary {x y : Ref sig .tc} {f : x.ty.Contents (Elt F) → y.ty.Contents (Elt F)} {hx hy} (h : Plain l W) :
    Plain (StableHlo.unary x y f hx hy :: l) (y :: W) := .cons (unary_bufs_sub ..) rfl (unary_writes ..) h

theorem Plain.binary {a b y : Ref sig .tc} {f : a.ty.Contents (Elt F) → b.ty.Contents (Elt F) → y.ty.Contents (Elt F)}
    {ha hb hy} (h : Plain l W) : Plain (StableHlo.binary a b y f ha hb hy :: l) (y :: W) :=
  .cons (binary_bufs_sub ..) rfl (binary_writes ..) h

theorem Plain.tnullary {T : BufTy} {y : TRef sig T} {v : T.Contents (Elt F)} (h : Plain l W) :
    Plain (TRef.nullary y v :: l) (y.ref :: W) := Plain.nullary h

theorem Plain.tunary {S T : BufTy} {x : TRef sig S} {y : TRef sig T} {f : S.Contents (Elt F) → T.Contents (Elt F)}
    (h : Plain l W) : Plain (TRef.unary x y f :: l) (y.ref :: W) := Plain.unary h

theorem Plain.tbinary {R S T : BufTy} {a : TRef sig R} {b : TRef sig S} {y : TRef sig T}
    {f : R.Contents (Elt F) → S.Contents (Elt F) → T.Contents (Elt F)} (h : Plain l W) :
    Plain (TRef.binary a b y f :: l) (y.ref :: W) := Plain.binary h

theorem Plain.tquaternary {R S T U X : BufTy} {a : TRef sig R} {b : TRef sig S} {c : TRef sig T} {d : TRef sig U}
    {y : TRef sig X} {f} (h : Plain l W) :
    Plain (TRef.quaternary a b c d y f :: l) (y.ref :: W) :=
  .cons (quaternary_bufs_sub ..) rfl (quaternary_writes ..) h

theorem Plain.treshape {S T : BufTy} {x : TRef sig S} {y : TRef sig T} {he : S.elt = T.elt} {hn : S.shape.ShapeCasts T.shape}
    (h : Plain l W) : Plain (TRef.reshape x y he hn :: l) (y.ref :: W) :=
  .cons (reshape_bufs_sub ..) rfl (reshape_writes ..) h

end Builders

/-! What each stretch writes. -/

def rounds0W (a b : TRef sig ⟨S_, .i32⟩) (x y : TRef sig ⟨S8x100000, .i32⟩) (φ : fn_threefry2x32.Bufs) :
    {W // Plain ((rounds0 (F := F) a b x y φ).1) W} := by
  apply Subtype.mk; unfold rounds0; dsimp only
  repeat first
    | exact Plain.nil | apply Plain.tnullary | apply Plain.tunary | apply Plain.tbinary | apply Plain.treshape
    | apply Plain.nullary | apply Plain.unary | apply Plain.binary | apply Plain.tquaternary

def rounds1W (a b : TRef sig ⟨S_, .i32⟩) (x y : TRef sig ⟨S8x100000, .i32⟩) (φ : fn_threefry2x32.Bufs) :
    {W // Plain ((rounds1 (F := F) a b x y φ).1) W} := by
  apply Subtype.mk; unfold rounds1; dsimp only
  repeat first
    | exact Plain.nil | apply Plain.tnullary | apply Plain.tunary | apply Plain.tbinary | apply Plain.treshape
    | apply Plain.nullary | apply Plain.unary | apply Plain.binary | apply Plain.tquaternary

def rounds2W (a b : TRef sig ⟨S_, .i32⟩) (x y : TRef sig ⟨S8x100000, .i32⟩) (φ : fn_threefry2x32.Bufs) :
    {W // Plain ((rounds2 (F := F) a b x y φ).1) W} := by
  apply Subtype.mk; unfold rounds2; dsimp only
  repeat first
    | exact Plain.nil | apply Plain.tnullary | apply Plain.tunary | apply Plain.tbinary | apply Plain.treshape
    | apply Plain.nullary | apply Plain.unary | apply Plain.binary | apply Plain.tquaternary

def rounds3W (a b : TRef sig ⟨S_, .i32⟩) (x y : TRef sig ⟨S8x100000, .i32⟩) (φ : fn_threefry2x32.Bufs) :
    {W // Plain ((rounds3 (F := F) a b x y φ).1) W} := by
  apply Subtype.mk; unfold rounds3; dsimp only
  repeat first
    | exact Plain.nil | apply Plain.tnullary | apply Plain.tunary | apply Plain.tbinary | apply Plain.treshape
    | apply Plain.nullary | apply Plain.unary | apply Plain.binary | apply Plain.tquaternary

def roundsW (a b : TRef sig ⟨S_, .i32⟩) (x y : TRef sig ⟨S8x100000, .i32⟩) (φ : fn_threefry2x32.Bufs) :
    {W // Plain (roundsLine (F := F) a b x y φ).1 W} :=
  ⟨_, (rounds0W a b x y φ).2.append ((rounds1W a b x y φ).2.append ((rounds2W a b x y φ).2.append (rounds3W a b x y φ).2))⟩

def uniformW (a : TRef sig ⟨S2, .i32⟩) (b c : TRef sig ⟨S_, .f32⟩) (φ : fn_uniform.Bufs) :
    {W // Plain ((uniformLine (F := F) a b c φ).1) W} := by
  apply Subtype.mk; unfold uniformLine; dsimp only
  repeat first
    | exact Plain.nil | apply Plain.tnullary | apply Plain.tunary | apply Plain.tbinary | apply Plain.treshape
    | apply Plain.nullary | apply Plain.unary | apply Plain.binary | apply Plain.tquaternary
    | apply Plain.append (roundsW _ _ _ _ _).2

def noiseW (a : TRef sig ⟨S2, .i32⟩) (φ : fn_gumbel.Bufs) :
    {W // Plain ((noiseLine (F := F) a φ).1) W} := by
  apply Subtype.mk; unfold noiseLine; dsimp only
  repeat first
    | exact Plain.nil | apply Plain.tnullary | apply Plain.tunary | apply Plain.tbinary | apply Plain.treshape
    | apply Plain.nullary | apply Plain.unary | apply Plain.binary | apply Plain.tquaternary
    | apply Plain.append (uniformW _ _ _ _).2

def argmaxW (a : TRef sig ⟨S8x100000, .f32⟩) (φ : fn_argmax.Bufs) :
    {W // Plain ((argmaxLine (F := F) a φ).1) W} := by
  apply Subtype.mk; unfold argmaxLine; dsimp only
  repeat first
    | exact Plain.nil | apply Plain.tnullary | apply Plain.tunary | apply Plain.tbinary | apply Plain.treshape
    | apply Plain.nullary | apply Plain.unary | apply Plain.binary | apply Plain.tquaternary

def headW  :
    {W // Plain (headOps (F := F)) W} := by
  apply Subtype.mk; unfold headOps
  repeat first
    | exact Plain.nil | apply Plain.tnullary | apply Plain.tunary | apply Plain.tbinary | apply Plain.treshape
    | apply Plain.nullary | apply Plain.unary | apply Plain.binary | apply Plain.tquaternary

def keyW  :
    {W // Plain (keyOps (F := F)) W} := by
  apply Subtype.mk; unfold keyOps
  repeat first
    | exact Plain.nil | apply Plain.tnullary | apply Plain.tunary | apply Plain.tbinary | apply Plain.treshape
    | apply Plain.nullary | apply Plain.unary | apply Plain.binary | apply Plain.tquaternary

def logW  :
    {W // Plain (logOps (F := F)) W} := by
  apply Subtype.mk; unfold logOps
  repeat first
    | exact Plain.nil | apply Plain.tnullary | apply Plain.tunary | apply Plain.tbinary | apply Plain.treshape
    | apply Plain.nullary | apply Plain.unary | apply Plain.binary | apply Plain.tquaternary

def sumW  :
    {W // Plain (sumOps (F := F)) W} := by
  apply Subtype.mk; unfold sumOps
  repeat first
    | exact Plain.nil | apply Plain.tnullary | apply Plain.tunary | apply Plain.tbinary | apply Plain.treshape
    | apply Plain.nullary | apply Plain.unary | apply Plain.binary | apply Plain.tquaternary

def lastW  :
    {W // Plain (lastOps (F := F)) W} := by
  apply Subtype.mk; unfold lastOps
  repeat first
    | exact Plain.nil | apply Plain.tnullary | apply Plain.tunary | apply Plain.tbinary | apply Plain.treshape
    | apply Plain.nullary | apply Plain.unary | apply Plain.binary | apply Plain.tquaternary

/-- What the line up to the noise writes. -/
def toNoiseW : {W // Plain (toNoise (F := F)) W} :=
  ⟨_, headW.2.append (keyW.2.append (logW.2.append (noiseW _ _).2))⟩

/-- What the line from the noise on writes. -/
def fromNoiseW : {W // Plain (fromNoise (F := F)) W} :=
  ⟨_, sumW.2.append ((argmaxW _ _).2.append lastW.2)⟩

/-- No operation writes an argument. -/
theorem args_not_written : main_arg0 ∉ (toNoiseW (F := Ideal)).1 ++ (fromNoiseW (F := Ideal)).1 ∧
    main_arg1 ∉ (toNoiseW (F := Ideal)).1 ++ (fromNoiseW (F := Ideal)).1 ∧
    main_arg2 ∉ (toNoiseW (F := Ideal)).1 ++ (fromNoiseW (F := Ideal)).1 := by decide +kernel

/-- The whole line. -/
theorem main_plain : Plain (toNoise (F := Ideal) ++ fromNoise) ((toNoiseW (F := Ideal)).1 ++ (fromNoiseW (F := Ideal)).1) := toNoiseW.2.append fromNoiseW.2

/-- Every run ends with every buffer at what the line leaves in it. -/
theorem run (m : (ℓ : Loc nD τ sig) → Buf (Elt Ideal) ℓ) (g : Dev nD → PrngReg) :
    θ_run defs (onTc main) ⟨m, fun _ => 0, g⟩ fun r => ∀ (d : Dev nD) (b : Ref sig .tc),
      r.2.mem ((d.tc : Thread nD τ).loc b) = after (toNoise (F := Ideal) ++ fromNoise) (launchContents m d) (Proc.devRef .tc b) :=
  run_hlo defs main main_isSeq (by decide) (by decide) main_plain.bufs main_plain.fresh m g

theorem arg0_kept (m : (ℓ : Loc nD τ sig) → Buf (Elt Ideal) ℓ) (d : Dev nD) :
    after (toNoise (F := Ideal) ++ fromNoise) (launchContents m d) (Proc.devRef .tc main_arg0) = m ((d.tc : Thread nD τ).loc main_arg0) :=
  main_plain.keeps args_not_written.1 _

theorem arg1_kept (m : (ℓ : Loc nD τ sig) → Buf (Elt Ideal) ℓ) (d : Dev nD) :
    after (toNoise (F := Ideal) ++ fromNoise) (launchContents m d) (Proc.devRef .tc main_arg1) = m ((d.tc : Thread nD τ).loc main_arg1) :=
  main_plain.keeps args_not_written.2.1 _

theorem arg2_kept (m : (ℓ : Loc nD τ sig) → Buf (Elt Ideal) ℓ) (d : Dev nD) :
    after (toNoise (F := Ideal) ++ fromNoise) (launchContents m d) (Proc.devRef .tc main_arg2) = m ((d.tc : Thread nD τ).loc main_arg2) :=
  main_plain.keeps args_not_written.2.2 _

/-- Every run ends with the arguments as they were and every semaphore at zero. -/
theorem frame (m : (ℓ : Loc nD τ sig) → Buf (Elt Ideal) ℓ) (g : Dev nD → PrngReg) :
    θ_run defs (onTc main) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => ⟨(h c _).trans (arg0_kept m c), (h c _).trans (arg1_kept m c), (h c _).trans (arg2_kept m c)⟩,
    sem_eq_zero_of_no_sems (by decide) r.2⟩) (run m g)

end Cert.Proof.Ref

end
-- ==== Proof.First.lean ====
/- The first place at which a list of extended reals is largest: that it is unique, how it is found block by block,
   and that two ways of reducing a list find it. -/
module

public import Idealize.ShloMosaic.PureOps.Ideal
public import Idealize.ShloMosaic.PureOps.Reduce

@[expose] public section

noncomputable section

namespace Cert.Proof

open Idealize.ShloMosaic

/-- Among the first `N` values of `f` the largest is `f r`, and `r` is the first place that has it. -/
def IsFirst (f : ℕ → EReal) (N r : ℕ) : Prop := r < N ∧ (∀ p < N, f p ≤ f r) ∧ ∀ p < N, f p = f r → r ≤ p

namespace IsFirst

variable {f g : ℕ → EReal} {N B r a : ℕ}

theorem unique {r' : ℕ} (h : IsFirst f N r) (h' : IsFirst f N r') : r = r' :=
  le_antisymm (h.2.2 r' h'.1 (le_antisymm (h.2.1 r' h'.1) (h'.2.1 r h.1)))
    (h'.2.2 r h.1 (le_antisymm (h'.2.1 r h.1) (h.2.1 r' h'.1)))

/-- The place depends only on the order of the values. -/
theorem of_order (hfg : ∀ p < N, ∀ q < N, f p ≤ f q ↔ g p ≤ g q) (h : IsFirst f N r) : IsFirst g N r :=
  ⟨h.1, fun p hp => (hfg p hp r h.1).1 (h.2.1 p hp), fun p hp he =>
    h.2.2 p hp (le_antisymm ((hfg p hp r h.1).2 he.le) ((hfg r h.1 p hp).2 he.ge))⟩

/-- The next block's largest value is above: its place is the new one. -/
theorem merge_new (h : IsFirst f N r) (h' : IsFirst (fun p => f (N + p)) B a) (hlt : f r < f (N + a)) : IsFirst f (N + B) (N + a) := by
  refine ⟨Nat.add_lt_add_left h'.1 N, fun p hp => ?_, fun p hp he => ?_⟩
  · rcases lt_or_ge p N with hN | hN
    · exact (h.2.1 p hN).trans hlt.le
    · obtain ⟨q, rfl⟩ := Nat.exists_eq_add_of_le hN
      exact h'.2.1 q (by omega)
  · rcases lt_or_ge p N with hN | hN
    · exact absurd (h.2.1 p hN) (not_le.2 (he ▸ hlt))
    · obtain ⟨q, rfl⟩ := Nat.exists_eq_add_of_le hN
      exact Nat.add_le_add_left (h'.2.2 q (by omega) he) N

/-- The next block's largest value is not above: the place stays. -/
theorem merge_old (h : IsFirst f N r) (h' : IsFirst (fun p => f (N + p)) B a) (hle : ¬ f r < f (N + a)) : IsFirst f (N + B) r := by
  refine ⟨by have := h.1; omega, fun p hp => ?_, fun p hp he => ?_⟩
  · rcases lt_or_ge p N with hN | hN
    · exact h.2.1 p hN
    · obtain ⟨q, rfl⟩ := Nat.exists_eq_add_of_le hN
      exact (h'.2.1 q (by omega)).trans (not_lt.1 hle)
  · rcases lt_or_ge p N with hN | hN
    · exact h.2.2 p hN he
    · exact h.1.le.trans hN

end IsFirst

/-- A fold of `max` from the bottom over a range that is not empty is one of the values, and above them all. -/
theorem fold_max_attained {n : ℕ} (hn : 0 < n) (h : Fin n → EReal) :
    (∃ p, h p = Finset.univ.fold max ⊥ h) ∧ ∀ p, h p ≤ Finset.univ.fold max ⊥ h := by
  have hle : ∀ p, h p ≤ Finset.univ.fold max ⊥ h := fun p => Finset.le_fold_max _ |>.2 (.inr ⟨p, Finset.mem_univ p, le_rfl⟩)
  refine ⟨?_, hle⟩
  rcases (Finset.le_fold_max _).1 (le_refl (Finset.univ.fold max ⊥ h)) with h0 | ⟨p, _, hp⟩
  · exact ⟨⟨0, hn⟩, le_antisymm (hle _) (h0.trans bot_le)⟩
  · exact ⟨p, le_antisymm (hle p) hp⟩

/-- Words below the sign bit compare, as signed words, as their numbers do. -/
theorem slt_ofNat {x y : ℕ} (hx : x < 2 ^ 31) (hy : y < 2 ^ 31) :
    (BitVec.ofNat 32 x).slt (BitVec.ofNat 32 y) = decide (x < y) := by
  have hx' : (BitVec.ofNat 32 x).toInt = x := by
    rw [BitVec.toInt_eq_toNat_of_lt] <;> simp only [BitVec.toNat_ofNat] <;> omega
  have hy' : (BitVec.ofNat 32 y).toInt = y := by
    rw [BitVec.toInt_eq_toNat_of_lt] <;> simp only [BitVec.toNat_ofNat] <;> omega
  rw [BitVec.slt, hx', hy']
  simp

/-- The signed minimum of two words below the sign bit is the minimum of their numbers. -/
theorem minsi_ofNat {x y : ℕ} (hx : x < 2 ^ 31) (hy : y < 2 ^ 31) :
    IKind.minsi.op (BitVec.ofNat 32 x) (BitVec.ofNat 32 y) = BitVec.ofNat 32 (min x y) := by
  have hs := slt_ofNat hx hy
  show (if (BitVec.ofNat 32 x).slt (BitVec.ofNat 32 y) then _ else _) = _
  rw [hs]
  by_cases h : x < y
  · rw [if_pos (by simpa using h), min_eq_left h.le]
  · rw [if_neg (by simpa using h), min_eq_right (not_lt.1 h)]

theorem fold_minsi {ι : Type} (s : Finset ι) (B : ℕ) (hB : B < 2 ^ 31) (w : ι → BitVec 32) (k : ι → ℕ) (hk : ∀ i, k i < 2 ^ 31)
    (hw : ∀ i, w i = BitVec.ofNat 32 (k i)) :
    s.fold IKind.minsi.op (BitVec.ofNat 32 B) w = BitVec.ofNat 32 (s.fold min B k) ∧ s.fold min B k < 2 ^ 31 := by
  classical
  induction s using Finset.induction_on with
  | empty => exact ⟨rfl, hB⟩
  | insert i s hi ih =>
    rw [Finset.fold_insert hi, Finset.fold_insert hi, ih.1, hw, minsi_ofNat (hk i) ih.2]
    exact ⟨rfl, (min_le_right _ _).trans_lt ih.2⟩

/-- A block's largest value, and the least row holding it, taken as words. -/
theorem block_first {n : ℕ} (hn : 0 < n) (hn' : n < 2 ^ 31) (f : ℕ → EReal) (h : Fin n → EReal) (hf : ∀ p, h p = f p)
    (w : Fin n → BitVec 32) (hw : ∀ p, w p = if h p = Finset.univ.fold max ⊥ h then BitVec.ofNat 32 p else BitVec.ofNat 32 n) :
    ∃ r, IsFirst f n r ∧ Finset.univ.fold max ⊥ h = f r ∧ Finset.univ.fold IKind.minsi.op (2147483647#32) w = BitVec.ofNat 32 r := by
  obtain ⟨⟨p0, hp0⟩, hle⟩ := fold_max_attained hn h
  generalize Finset.univ.fold max ⊥ h = M at *
  have hk := fold_minsi Finset.univ 2147483647 (by norm_num) w (fun p => if h p = M then (p : ℕ) else n)
    (fun p => by have := p.2; split <;> omega) (fun p => by rw [hw p]; split <;> rfl)
  generalize hR : Finset.univ.fold min 2147483647 (fun p : Fin n => if h p = M then (p : ℕ) else n) = R at hk
  have hlow : ∀ p : Fin n, h p = M → R ≤ p := fun p hp => by
    rw [← hR, Finset.fold_min_le]; exact .inr ⟨p, Finset.mem_univ p, by rw [if_pos hp]⟩
  have hRn : R < n := (hlow p0 hp0).trans_lt p0.2
  obtain ⟨p, hp, hpR⟩ : ∃ p : Fin n, h p = M ∧ (p : ℕ) ≤ R := by
    have := hR.le
    rw [Finset.fold_min_le] at this
    rcases this with h0 | ⟨p, -, hp⟩
    · omega
    · by_cases hM : h p = M
      · rw [if_pos hM] at hp; exact ⟨p, hM, hp⟩
      · rw [if_neg hM] at hp; omega
  have hpe : (p : ℕ) = R := le_antisymm hpR (hlow p hp)
  have hfR : M = f R := by rw [← hpe, ← hf, hp]
  refine ⟨R, ⟨hRn, fun q hq => ?_, fun q hq he => ?_⟩, hfR, hk.1⟩
  · rw [← hfR]; exact hf ⟨q, hq⟩ ▸ hle ⟨q, hq⟩
  · exact hlow ⟨q, hq⟩ ((hf ⟨q, hq⟩).trans (he.trans hfR.symm))

/-- The better of two pairs of a value and a place: the larger value, and of two equal ones the smaller place. -/
def better (a b : EReal × ℕ) : EReal × ℕ :=
  (if b.1 < a.1 then a.1 else b.1, if b.1 < a.1 ∨ (a.1 = b.1 ∧ a.2 < b.2) then a.2 else b.2)

/-- Taking the better pair along a list of places leaves the first place of the largest value. -/
theorem foldl_better {ι : Type} (f : ℕ → EReal) (col : ι → ℕ) (L : List ι) (v : EReal × ℕ) (S : ℕ → Prop)
    (h : (∀ r, S r → f r ≤ v.1) ∧ (∀ r, S r → f r = v.1 → v.2 ≤ r) ∧ (v = (⊥, 0) ∨ (S v.2 ∧ f v.2 = v.1))) :
    let u := L.foldl (fun a n => better a (f (col n), col n)) v
    let S' := fun r => S r ∨ ∃ n ∈ L, col n = r
    (∀ r, S' r → f r ≤ u.1) ∧ (∀ r, S' r → f r = u.1 → u.2 ≤ r) ∧ (u = (⊥, 0) ∨ (S' u.2 ∧ f u.2 = u.1)) := by
  induction L generalizing v S with
  | nil => simpa using h
  | cons n L ih =>
    have key := ih (better v (f (col n), col n)) (fun r => S r ∨ col n = r) (by
      obtain ⟨h1, h2, h3⟩ := h
      unfold better
      rcases lt_trichotomy (f (col n)) v.1 with hlt | heq | hgt
      · simp only [hlt, if_true, true_or]
        refine ⟨?_, ?_, ?_⟩
        · rintro r (hr | rfl)
          exacts [h1 r hr, hlt.le]
        · rintro r (hr | rfl) he
          exacts [h2 r hr he, absurd he hlt.ne]
        · exact h3.imp id fun h => ⟨.inl h.1, h.2⟩
      · simp only [heq, lt_irrefl, if_false, false_or, true_and]
        refine ⟨?_, ?_, ?_⟩
        · rintro r (hr | rfl)
          exacts [h1 r hr, heq.le]
        · rintro r (hr | rfl) he
          · have := h2 r hr he; split <;> omega
          · split <;> omega
        · split
          · exact h3.imp (fun h => by rw [← h]) fun h => ⟨.inl h.1, h.2⟩
          · exact .inr ⟨.inr rfl, heq⟩
      · simp only [not_lt.2 hgt.le, hgt.ne, false_and, or_self, if_false]
        refine ⟨?_, ?_, .inr ⟨.inr trivial, trivial⟩⟩
        · rintro r (hr | rfl)
          exacts [(h1 r hr).trans hgt.le, le_rfl]
        · rintro r (hr | rfl) he
          exacts [absurd (h1 r hr) (not_le.2 (he ▸ hgt)), le_rfl])
    simpa [or_assoc, eq_comm] using key

/-- A list of pairs of a value and a place as a word, each place below `N` in it, reduced by `better` on the words. -/
theorem foldl_first {ι : Type} (f : ℕ → EReal) (N : ℕ) (hN : 0 < N) (L : List ι) (col : ι → ℕ) (hcol : ∀ n ∈ L, col n < N)
    (hall : ∀ r < N, ∃ n ∈ L, col n = r) (step : EReal × BitVec 32 → ι → EReal × BitVec 32)
    (hstep : ∀ n ∈ L, ∀ a : EReal × ℕ, a.2 < N → step (a.1, BitVec.ofNat 32 a.2) n
      = ((better a (f (col n), col n)).1, BitVec.ofNat 32 (better a (f (col n), col n)).2)) :
    ∃ r, IsFirst f N r ∧ (L.foldl step (⊥, 0#32)).2 = BitVec.ofNat 32 r := by
  have hfold : ∀ (K : List ι) (a : EReal × ℕ), (∀ n ∈ K, n ∈ L) → a.2 < N →
      K.foldl step (a.1, BitVec.ofNat 32 a.2) = ((K.foldl (fun a n => better a (f (col n), col n)) a).1,
        BitVec.ofNat 32 (K.foldl (fun a n => better a (f (col n), col n)) a).2) := by
    intro K
    induction K with
    | nil => intro a _ _; rfl
    | cons n K ih =>
      intro a hK ha
      rw [List.foldl_cons, List.foldl_cons, hstep n (hK n (by simp)) a ha]
      refine ih _ (fun q hq => hK q (by simp [hq])) ?_
      unfold better
      dsimp only
      have := hcol n (hK n (by simp))
      split <;> assumption
  have hb := foldl_better f col L (⊥, 0) (fun _ => False) ⟨by simp, by simp, .inl rfl⟩
  have he := hfold L (⊥, 0) (fun _ h => h) hN
  dsimp only at hb he
  generalize L.foldl (fun a n => better a (f (col n), col n)) (⊥, 0) = u at hb he
  obtain ⟨h1, h2, h3⟩ := hb
  refine ⟨u.2, ⟨?_, ?_, ?_⟩, congrArg Prod.snd he⟩
  · rcases h3 with h | ⟨h | ⟨n, hn, h⟩, -⟩
    · rw [h]; exact hN
    · exact h.elim
    · rw [← h]; exact hcol n hn
  all_goals
    have hu : f u.2 = u.1 := by
      rcases h3 with h | h
      · rw [h]; exact le_bot_iff.1 ((h1 0 (.inr (hall 0 hN))).trans (by rw [h]))
      · exact h.2
    rw [hu]
  · exact fun p hp => h1 p (.inr (hall p hp))
  · exact fun p hp => h2 p (.inr (hall p hp))

end Cert.Proof

end
-- ==== Proof.Block.lean ====
/- What one grid point computes from its blocks: a score for each of its 2000 rows, the largest one and the first row holding it. -/
module

public import proofs.«01_k».proof.Proof.Gen.KernelIdeal.Skeleton
public import proofs.«01_k».proof.Proof.First
public import Idealize.ShloMosaic.Lib.Pointwise
public import Idealize.ShloMosaic.PureOps.Ideal.Laws

@[expose] public section

set_option maxRecDepth 16384

noncomputable section

namespace Cert.Proof.Block

open Idealize.ShloMosaic Cert.KernelIdeal Cert.KernelIdeal.Gen Cert.KernelIdeal.Facts₀ Cert.KernelIdeal.Facts

variable (w : Vec Ideal S2000x1024 .f32) (s : Vec Ideal S1024x8 .f32) (z : Vec Ideal S2000x8 .f32)

/-- The word the maxima start from stands for the bottom. -/
theorem ofBits_negInf : Ideal.ofBits FTy.f32 0xFF800000#32 = ⊥ := by
  unfold Ideal.ofBits
  dsimp only
  unfold Ideal.ieee
  dsimp only
  rw [if_pos (by decide), if_pos (by decide), if_pos (by decide)]

/-- Row `p` of the block scored for row `j` of the state. -/
theorem score_at (p : Fin 2000) (j : Fin 8) :
    k0_pay1 w s z (ix2 p j) = (∑ k : Fin 1024, w (ix2 p k) * s (ix2 k j)) + z (ix2 p j) := by
  unfold k0_pay1
  pointwise

theorem max_at (j : Fin 8) :
    k0_pay2 w s z (ix2 0 j) = Finset.univ.fold max ⊥ fun p : Fin 2000 => k0_pay1 w s z (ix2 p j) := by
  unfold k0_pay2
  generalize k0_pay1 w s z = y
  pointwise
  rw [ofBits_negInf]

theorem arg_at (j : Fin 8) :
    k0_pay3 w s z (ix2 0 j) = Finset.univ.fold IKind.minsi.op (2147483647#32) fun p : Fin 2000 =>
      if k0_pay1 w s z (ix2 p j) = k0_pay2 w s z (ix2 0 j) then BitVec.ofNat 32 p else BitVec.ofNat 32 2000 := by
  unfold k0_pay3
  generalize k0_pay1 w s z = y
  generalize k0_pay2 w s z = v
  pointwise

/-- The block's largest score and the first row holding it. -/
theorem first (j : Fin 8) (f : ℕ → EReal) (hf : ∀ p : Fin 2000, k0_pay1 w s z (ix2 p j) = f p) :
    ∃ r, IsFirst f 2000 r ∧ k0_pay2 w s z (ix2 0 j) = f r ∧ k0_pay3 w s z (ix2 0 j) = BitVec.ofNat 32 r := by
  rw [arg_at, max_at]
  exact block_first (by norm_num) (by norm_num) f (fun p : Fin 2000 => k0_pay1 w s z (ix2 p j)) hf _ fun _ => rfl

/-- The larger of the block's and the running largest. -/
theorem merge_max_at (j : Fin 8) (u : Vec Ideal S1x8 .f32) : k0_pay5 w s z u (ix2 0 j) = max (k0_pay2 w s z (ix2 0 j)) (u (ix2 0 j)) := by
  unfold k0_pay5
  generalize k0_pay2 w s z = v
  pointwise

/-- The row kept: the block's, shifted, where its largest is above the running one. -/
theorem merge_arg_at (i : grid0.Coords) (j : Fin 8) (u : Vec Ideal S1x8 .f32) (a : Vec Ideal S1x8 .i32) : k0_pay4 i w s z u a (ix2 0 j)
    = if u (ix2 0 j) < k0_pay2 w s z (ix2 0 j) then k0_pay3 w s z (ix2 0 j) + BitVec.ofNat 32 (i 0).val * 2000#32 else a (ix2 0 j) := by
  unfold k0_pay4
  generalize k0_pay2 w s z = v
  generalize k0_pay3 w s z = b
  pointwise
  rfl

end Cert.Proof.Block

end
-- ==== Proof.Blocks.lean ====
/- The blocks each grid point reads, as entries of the arrays, and what the two outputs hold after it. -/
module

public import proofs.«01_k».proof.Proof.Gen.KernelIdeal.Frame
public import Idealize.ShloMosaic.Lib.Pipeline.ValueKit

@[expose] public section

set_option maxRecDepth 16384

noncomputable section

namespace Cert.Proof.Blocks

open Idealize.ShloMosaic Idealize.ShloMosaic.TcCoe
open Cert.KernelIdeal Cert.KernelIdeal.Gen Cert.KernelIdeal.Facts₀ Cert.KernelIdeal.Facts

variable (m : (ℓ : Loc nD τ sig) → Buf (Elt Ideal) ℓ) (c : Dev nD)

/-- Where each window's block lies at point `t`, in blocks. -/
theorem index_weights : ∀ t : Fin cfg0.N, win0_0.index t 0 = t.val ∧ win0_0.index t 1 = 0 := by decide +kernel
theorem index_state : ∀ t : Fin cfg0.N, win0_1.index t 0 = 0 ∧ win0_1.index t 1 = 0 := by decide +kernel
theorem index_shift : ∀ t : Fin cfg0.N, win0_2.index t 0 = t.val ∧ win0_2.index t 1 = 0 := by decide +kernel

/-- Window 0's block at point `t` is 2000 rows of its array. -/
theorem read_weights (X : FVec Ideal S100000x1024 .f32) (t : Fin cfg0.N) (p : Fin 2000) (k : Fin 1024) (h : 2000 * t.val + p.val < 100000) :
    (((cfg0.win 0).blk t).view.read (Elt Ideal) X : Vec Ideal S2000x1024 .f32) (ix2 p k) = X (ix2 ⟨2000 * t.val + p.val, h⟩ k) := by
  have hi := index_weights t
  blk_ext

/-- Window 1's block is its whole array. -/
theorem read_state (X : FVec Ideal S1024x8 .f32) (t : Fin cfg0.N) (k : Fin 1024) (j : Fin 8) :
    (((cfg0.win 1).blk t).view.read (Elt Ideal) X : Vec Ideal S1024x8 .f32) (ix2 k j) = X (ix2 k j) := by
  have hi := index_state t
  blk_ext

/-- Window 2's block at point `t` is 2000 rows of its array. -/
theorem read_shift (X : FVec Ideal S100000x8 .f32) (t : Fin cfg0.N) (p : Fin 2000) (j : Fin 8) (h : 2000 * t.val + p.val < 100000) :
    (((cfg0.win 2).blk t).view.read (Elt Ideal) X : Vec Ideal S2000x8 .f32) (ix2 p j) = X (ix2 ⟨2000 * t.val + p.val, h⟩ j) := by
  have hi := index_shift t
  blk_ext

theorem weights_at (t : Fin cfg0.N) (p : Fin 2000) (k : Fin 1024) (h : 2000 * t.val + p.val < 100000) :
    (iblk m c 0 t : Vec Ideal S2000x1024 .f32) (ix2 p k) = (V m c main_arg1 : FVec Ideal S100000x1024 .f32) (ix2 ⟨2000 * t.val + p.val, h⟩ k) :=
  read_weights (V m c main_arg1) t p k h

theorem state_at (t : Fin cfg0.N) (k : Fin 1024) (j : Fin 8) :
    (iblk m c 1 t : Vec Ideal S1024x8 .f32) (ix2 k j) = (V m c main_call0_v12 : FVec Ideal S1024x8 .f32) (ix2 k j) :=
  read_state (V m c main_call0_v12) t k j

theorem shift_at (t : Fin cfg0.N) (p : Fin 2000) (j : Fin 8) (h : 2000 * t.val + p.val < 100000) :
    (iblk m c 2 t : Vec Ideal S2000x8 .f32) (ix2 p j) = (V m c main_call0_v11 : FVec Ideal S100000x8 .f32) (ix2 ⟨2000 * t.val + p.val, h⟩ j) :=
  read_shift (V m c main_call0_v11) t p j h

/-- The first point stores its block's largest scores and rows. -/
theorem first_point (t : Fin cfg0.N) (h0 : t.val % 50 = 0) (h1 : ¬1 ≤ t.val) : outsAt0 m c t.val t.isLt
    = (k0_pay2 (iblk m c 0 t) (iblk m c 1 t) (iblk m c 2 t), k0_pay3 (iblk m c 0 t) (iblk m c 1 t) (iblk m c 2 t)) := by
  rw [outsAt0_A m c t h0 h1]
  frame_out

/-- A later point merges its block's into what the point before left. -/
theorem later_point (t : Fin cfg0.N) (h0 : ¬t.val % 50 = 0) (h1 : 1 ≤ t.val) : outsAt0 m c t.val t.isLt
    = (k0_pay5 (iblk m c 0 t) (iblk m c 1 t) (iblk m c 2 t) (outsAt0 m c (t.val - 1) (by omega)).1,
       k0_pay4 (grid0.coords t) (iblk m c 0 t) (iblk m c 1 t) (iblk m c 2 t) (outsAt0 m c (t.val - 1) (by omega)).1 (outsAt0 m c (t.val - 1) (by omega)).2) := by
  rw [outsAt0_B m c t h0 h1]
  frame_out

end Cert.Proof.Blocks

end
-- ==== Proof.Twin.lean ====
/- Two straight lines of host operations, in two programs, that apply the same functions in the same order: what
   they leave in corresponding buffers is equal. The kernel and the reference draw the same random noise by the same
   270 operations, so the noise is never computed here: the lines are compared operation by operation, and one
   finite check says that every operand was compared before it is used and that no buffer is written twice. -/
module

public import Idealize.ShloMosaic.Lib.StableHlo.Run
public import Idealize.ShloMosaic.Lib.StableHlo.RunHlo

@[expose] public section

noncomputable section

namespace Cert.Proof.Twin

open Idealize.ShloMosaic Idealize.ShloMosaic.StableHlo

variable {τ τ' : Topo} {sig sig' : RefSig} {Val : EltTy → Type}

/-- A buffer of the first program and its counterpart in the second. -/
abbrev Twins (sig sig' : RefSig) := Ref sig .tc × Ref sig' .tc

/-- Every pair of the list holds the same contents. -/
def Agree (L : List (Twins sig sig')) (V : Valuation τ sig Val) (V' : Valuation τ' sig' Val) : Prop :=
  ∀ p ∈ L, HEq (V (Proc.devRef .tc p.1)) (V' (Proc.devRef .tc p.2))

/-- What one step of the comparison reads and writes. `both`: the two lines each run an operation; `second`: the
    second line alone does, and what it writes has no counterpart. -/
inductive Access (sig sig' : RefSig)
  | both (reads : List (Twins sig sig')) (wrote : Twins sig sig')
  | second (wrote : Ref sig' .tc)

/-- The comparison itself: the operations of the two lines side by side. -/
inductive Line : List (HloOp τ sig Val) → List (HloOp τ' sig' Val) → List (Access sig sig') → Prop
  | nil : Line [] [] []
  | nullary {T : BufTy} (y : TRef sig T) (y' : TRef sig' T) (v : T.Contents Val) {l l' w} (h : Line l l' w) :
      Line (TRef.nullary y v :: l) (TRef.nullary y' v :: l') (.both [] (y.ref, y'.ref) :: w)
  | unary {T U : BufTy} (x : TRef sig T) (x' : TRef sig' T) (y : TRef sig U) (y' : TRef sig' U)
      (f : T.Contents Val → U.Contents Val) {l l' w} (h : Line l l' w) :
      Line (TRef.unary x y f :: l) (TRef.unary x' y' f :: l') (.both [(x.ref, x'.ref)] (y.ref, y'.ref) :: w)
  | binary {S T U : BufTy} (a : TRef sig S) (a' : TRef sig' S) (b : TRef sig T) (b' : TRef sig' T)
      (y : TRef sig U) (y' : TRef sig' U) (f : S.Contents Val → T.Contents Val → U.Contents Val) {l l' w}
      (h : Line l l' w) :
      Line (TRef.binary a b y f :: l) (TRef.binary a' b' y' f :: l')
        (.both [(a.ref, a'.ref), (b.ref, b'.ref)] (y.ref, y'.ref) :: w)
  | reshape {T U : BufTy} (x : TRef sig T) (x' : TRef sig' T) (y : TRef sig U) (y' : TRef sig' U)
      (he : T.elt = U.elt) (hn : T.shape.ShapeCasts U.shape) {l l' w} (h : Line l l' w) :
      Line (TRef.reshape x y he hn :: l) (TRef.reshape x' y' he hn :: l')
        (.both [(x.ref, x'.ref)] (y.ref, y'.ref) :: w)
  | second (op : HloOp τ' sig' Val) (y' : Ref sig' .tc) (hw : op.writes = {Proc.devRef .tc y'}) {l l' w}
      (h : Line l l' w) : Line l (op :: l') (.second y' :: w)

/-- The check: every operand pair is in the list of pairs known to agree, every buffer written is new to it, and
    `goal` is in it at the end. -/
def ok (goal : Twins sig sig') : List (Twins sig sig') → List (Access sig sig') → Bool
  | L, [] => decide (goal ∈ L)
  | L, .both r w :: l => r.all (fun p => decide (p ∈ L)) && L.all (fun p => !decide (p.1 = w.1) && !decide (p.2 = w.2)) && ok goal (w :: L) l
  | L, .second w :: l => L.all (fun p => !decide (p.2 = w)) && ok goal L l

/-- One operation in each line: if its results agree then so does the longer list. -/
theorem Agree.step {L : List (Twins sig sig')} {V : Valuation τ sig Val} {V' : Valuation τ' sig' Val}
    (hA : Agree L V V') (op : HloOp τ sig Val) (op' : HloOp τ' sig' Val) (y : Ref sig .tc) (y' : Ref sig' .tc)
    (hw : op.writes = {Proc.devRef .tc y}) (hw' : op'.writes = {Proc.devRef .tc y'})
    (hL : L.all (fun p => !decide (p.1 = y) && !decide (p.2 = y')) = true)
    (h : HEq (op.result V (Proc.devRef .tc y)) (op'.result V' (Proc.devRef .tc y'))) :
    Agree ((y, y') :: L) (op.result V) (op'.result V') := by
  intro p hp
  rcases List.mem_cons.mp hp with rfl | hp
  · exact h
  · have hn := List.all_eq_true.mp hL p hp
    simp only [Bool.and_eq_true, Bool.not_eq_true', decide_eq_false_iff_not] at hn
    rw [result_of_writes_ne op V y p.1 hw hn.1, result_of_writes_ne op' V' y' p.2 hw' hn.2]
    exact hA p hp

theorem ofBuf_heq {T : BufTy} (x : TRef sig T) (v : x.ref.ty.Contents Val) : HEq (x.ofBuf v) v := cast_heq _ _
theorem toBuf_heq {T : BufTy} (x : TRef sig T) (v : T.Contents Val) : HEq (x.toBuf v) v := cast_heq _ _

/-- Twin buffers with equal contents hold equal values. -/
theorem ofBuf_eq {T : BufTy} (x : TRef sig T) (x' : TRef sig' T) {v : x.ref.ty.Contents Val} {v' : x'.ref.ty.Contents Val}
    (h : HEq v v') : x.ofBuf v = x'.ofBuf v' :=
  eq_of_heq ((ofBuf_heq x v).trans (h.trans (ofBuf_heq x' v').symm))

/-- Equal values written to twin buffers are equal contents. -/
theorem toBuf_eq {T : BufTy} (x : TRef sig T) (x' : TRef sig' T) {v v' : T.Contents Val} (h : v = v') :
    HEq (x.toBuf v) (x'.toBuf v') := by
  subst h; exact (toBuf_heq x v).trans (toBuf_heq x' v).symm

/-- Two reshapes of equal contents between types that are equal are equal. -/
theorem shapeCast_heq {X X' Y Y' T U : BufTy} (hx : X = T) (hx' : X' = T) (hy : Y = U) (hy' : Y' = U)
    (he : X.elt = Y.elt) (he' : X'.elt = Y'.elt) (hn : X.shape.ShapeCasts Y.shape) (hn' : X'.shape.ShapeCasts Y'.shape)
    (v : X.Contents Val) (v' : X'.Contents Val) (h : HEq v v') :
    HEq ((fun i => he ▸ shapeCast Y.shape v hn i : Y.Contents Val)) ((fun i => he' ▸ shapeCast Y'.shape v' hn' i : Y'.Contents Val)) := by
  subst hx; subst hy; subst hx'; subst hy'
  cases eq_of_heq h
  rfl

/-- A reshape leaves equal contents where its operands were equal. -/
theorem reshape_heq {T U : BufTy} (x : TRef sig T) (x' : TRef sig' T) (y : TRef sig U) (y' : TRef sig' U)
    (he : T.elt = U.elt) (hn : T.shape.ShapeCasts U.shape) (V : Valuation τ sig Val) (V' : Valuation τ' sig' Val)
    (h : HEq (V (Proc.devRef .tc x.ref)) (V' (Proc.devRef .tc x'.ref))) :
    HEq ((TRef.reshape x y he hn : HloOp τ sig Val).result V (Proc.devRef .tc y.ref))
      ((TRef.reshape x' y' he hn : HloOp τ' sig' Val).result V' (Proc.devRef .tc y'.ref)) := by
  rw [reshape_result', reshape_result']
  exact shapeCast_heq x.ty_eq x'.ty_eq y.ty_eq y'.ty_eq _ _ _ _ _ _ h

/-- Lines that pass the check leave equal contents in the goal's two buffers. -/
theorem Line.agree {l : List (HloOp τ sig Val)} {l' : List (HloOp τ' sig' Val)} {w : List (Access sig sig')}
    (h : Line l l' w) (goal : Twins sig sig') : ∀ (L : List (Twins sig sig')) (V : Valuation τ sig Val) (V' : Valuation τ' sig' Val),
    Agree L V V' → ok goal L w = true →
    HEq (after l V (Proc.devRef .tc goal.1)) (after l' V' (Proc.devRef .tc goal.2)) := by
  induction h with
  | nil => intro L V V' hA hk; exact hA goal (of_decide_eq_true hk)
  | nullary y y' v h ih =>
    intro L V V' hA hk
    simp only [ok, Bool.and_eq_true] at hk
    refine ih _ _ _ (hA.step _ _ y.ref y'.ref rfl rfl hk.1.2 ?_) hk.2
    rw [nullary_result', nullary_result']
    exact toBuf_eq y y' rfl
  | unary x x' y y' f h ih =>
    intro L V V' hA hk
    simp only [ok, Bool.and_eq_true, List.all_cons, List.all_nil, decide_eq_true_eq] at hk
    refine ih _ _ _ (hA.step _ _ y.ref y'.ref rfl rfl hk.1.2 ?_) hk.2
    rw [unary_result', unary_result']
    exact toBuf_eq y y' (congrArg f (ofBuf_eq x x' (hA _ hk.1.1.1)))
  | binary a a' b b' y y' f h ih =>
    intro L V V' hA hk
    simp only [ok, Bool.and_eq_true, List.all_cons, List.all_nil, decide_eq_true_eq] at hk
    refine ih _ _ _ (hA.step _ _ y.ref y'.ref rfl rfl hk.1.2 ?_) hk.2
    rw [binary_result', binary_result']
    exact toBuf_eq y y' (congrArg₂ f (ofBuf_eq a a' (hA _ hk.1.1.1)) (ofBuf_eq b b' (hA _ hk.1.1.2.1)))
  | reshape x x' y y' he hn h ih =>
    intro L V V' hA hk
    simp only [ok, Bool.and_eq_true, List.all_cons, List.all_nil, decide_eq_true_eq] at hk
    refine ih _ _ _ (hA.step _ _ y.ref y'.ref rfl rfl hk.1.2 ?_) hk.2
    exact reshape_heq x x' y y' he hn V V' (hA _ hk.1.1.1)
  | second op y' hw h ih =>
    intro L V V' hA hk
    simp only [ok, Bool.and_eq_true] at hk
    refine ih _ _ _ (fun p hp => ?_) hk.2
    have hn := List.all_eq_true.mp hk.1 p hp
    simp only [Bool.not_eq_true', decide_eq_false_iff_not] at hn
    rw [result_of_writes_ne op V' y' p.2 hw hn]
    exact hA p hp

end Cert.Proof.Twin

end
-- ==== Proof.Noise.lean ====
/- The noise: the kernel's host code and the reference make the same numbers by the same operations. -/
module

public import proofs.«01_k».proof.Proof.Gen.KernelIdeal.Launch
public import proofs.«01_k».proof.Proof.RefLine
public import proofs.«01_k».proof.Proof.Twin
public import Idealize.ShloMosaic.PureOps.Ideal

@[expose] public section

set_option maxRecDepth 8000

noncomputable section

namespace Cert.Proof.Noise

open Idealize.ShloMosaic Idealize.ShloMosaic.StableHlo Cert.Proof.Twin

/-- The operations of the kernel's host code that make the noise. -/
def made : List (HloOp Cert.KernelIdeal.τ Cert.KernelIdeal.sig (Elt Ideal)) := (Cert.KernelIdeal.Gen.hostOps0 (F := Ideal)).take 277

/-- The operations of the kernel's host code after those. -/
def rest : List (HloOp Cert.KernelIdeal.τ Cert.KernelIdeal.sig (Elt Ideal)) := (Cert.KernelIdeal.Gen.hostOps0 (F := Ideal)).drop 277

/-- The two lines side by side. -/
def sideBySide : {w // Line made (Cert.Proof.Ref.toNoise (F := Ideal)) w} := by
  apply Subtype.mk
  unfold made Cert.KernelIdeal.Gen.hostOps0 Cert.Proof.Ref.toNoise Cert.Proof.Ref.headOps Cert.Proof.Ref.keyOps Cert.Proof.Ref.logOps
  simp only [List.take_succ_cons, List.take_zero, List.cons_append, List.nil_append]
  iterate 19 apply Line.second _ _ rfl
  repeat first | exact Line.nil | apply Line.nullary | apply Line.unary | apply Line.binary | apply Line.reshape
  apply Line.second _ _ rfl
  repeat first | exact Line.nil | apply Line.nullary | apply Line.unary | apply Line.binary | apply Line.reshape

theorem checked : ok (Cert.KernelIdeal.main_call0_v7, Cert.ReferenceIdeal.main_v24) [] sideBySide.1 = true := by
  decide +kernel

/-- Both lines leave the same noise, whatever the two memories held. -/
theorem same (V : Valuation Cert.KernelIdeal.τ Cert.KernelIdeal.sig (Elt Ideal))
    (V' : Valuation Cert.ReferenceIdeal.τ Cert.ReferenceIdeal.sig (Elt Ideal)) :
    HEq (after made V (Proc.devRef .tc Cert.KernelIdeal.main_call0_v7))
      (after (Cert.Proof.Ref.toNoise (F := Ideal)) V' (Proc.devRef .tc Cert.ReferenceIdeal.main_v24)) :=
  sideBySide.2.agree _ [] V V' (fun _ h => absurd h List.not_mem_nil) checked

end Cert.Proof.Noise

end
-- ==== Proof.Host.lean ====
/- What the kernel's region is handed: the state turned, and the noise turned plus the bias along each row. -/
module

public import proofs.«01_k».proof.Proof.Gen.KernelIdeal.Frame
public import proofs.«01_k».proof.Proof.Noise
public import Idealize.ShloMosaic.Lib.StableHlo.RunRead

@[expose] public section

set_option maxRecDepth 8000

noncomputable section

namespace Cert.Proof.Host

open Idealize.ShloMosaic Idealize.ShloMosaic.TcCoe Idealize.ShloMosaic.StableHlo
open Cert.KernelIdeal Cert.KernelIdeal.Gen

variable (m : (ℓ : Loc nD τ sig) → Buf (Elt Ideal) ℓ)

/-- The contents when the noise is made. -/
abbrev atNoise (c : Dev nD) : Valuation τ sig (Elt Ideal) := after Cert.Proof.Noise.made (fun b => m (c, b))

/-- The noise of device `c`: one number for each row of the state and each row of the weights. -/
def noise (c : Dev nD) : FVec Ideal S8x100000 .f32 := atNoise m c (Proc.devRef .tc main_call0_v7)

theorem V0_eq (c : Dev nD) : V0 m c = after Cert.Proof.Noise.rest (atNoise m c) := by
  unfold V0 atNoise Cert.Proof.Noise.rest Cert.Proof.Noise.made
  rw [List.flatten_cons, List.flatten_nil, List.append_nil]
  exact (congrArg (fun l => after l _) (List.take_append_drop 277 hostOps0).symm).trans (after_append ..)

theorem rest_eq : Cert.Proof.Noise.rest =
  [ TRef.unary main_call0_call0.v4 (.of main_call0_v8 : TRef sig ⟨S100000x8, .f32⟩) (transpose S100000x8 [1, 0] · transposes_S8x100000_S100000x8_1_0),
    TRef.unary (.of main_arg2 : TRef sig ⟨S100000, .f32⟩) (.of main_call0_v9 : TRef sig ⟨S100000x1, .f32⟩) (broadcastInDim S100000x1 ![0] bcast_S100000_S100000x1_0),
    TRef.unary (.of main_call0_v9 : TRef sig ⟨S100000x1, .f32⟩) (.of main_call0_v10 : TRef sig ⟨S100000x8, .f32⟩) (broadcastInDim S100000x8 ![0, 1] bcast_S100000x1_S100000x8_0_1),
    TRef.binary (.of main_call0_v8 : TRef sig ⟨S100000x8, .f32⟩) (.of main_call0_v10 : TRef sig ⟨S100000x8, .f32⟩) (.of main_call0_v11 : TRef sig ⟨S100000x8, .f32⟩) (addf (F := Ideal) (s := S100000x8) (φ := .f32)),
    TRef.unary (.of main_arg0 : TRef sig ⟨S8x1024, .f32⟩) (.of main_call0_v12 : TRef sig ⟨S1024x8, .f32⟩) (transpose S1024x8 [1, 0] · transposes_S8x1024_S1024x8_1_0) ] := rfl

/-- What those operations leave, over any contents before them. -/
theorem rest_v12 (X : Valuation τ sig (Elt Ideal)) : (after Cert.Proof.Noise.rest X (Proc.devRef .tc main_call0_v12) : FVec Ideal S1024x8 .f32)
    = transpose S1024x8 [1, 0] (X (Proc.devRef .tc main_arg0) : FVec Ideal S8x1024 .f32) transposes_S8x1024_S1024x8_1_0 := by
  rw [rest_eq]; after_reads_simp; rfl

theorem rest_v11 (X : Valuation τ sig (Elt Ideal)) : (after Cert.Proof.Noise.rest X (Proc.devRef .tc main_call0_v11) : FVec Ideal S100000x8 .f32)
    = addf (F := Ideal) (s := S100000x8) (φ := .f32) (transpose S100000x8 [1, 0] (X (Proc.devRef .tc main_call0_v7) : FVec Ideal S8x100000 .f32) transposes_S8x100000_S100000x8_1_0)
        (broadcastInDim S100000x8 ![0, 1] bcast_S100000x1_S100000x8_0_1
          (broadcastInDim S100000x1 ![0] bcast_S100000_S100000x1_0 (X (Proc.devRef .tc main_arg2) : FVec Ideal S100000 .f32))) := by
  rw [rest_eq]; after_reads_simp; rfl

theorem rest_arg0 (X : Valuation τ sig (Elt Ideal)) : after Cert.Proof.Noise.rest X (Proc.devRef .tc main_arg0) = X (Proc.devRef .tc main_arg0) := by
  rw [rest_eq]; after_reads_simp

theorem rest_arg2 (X : Valuation τ sig (Elt Ideal)) : after Cert.Proof.Noise.rest X (Proc.devRef .tc main_arg2) = X (Proc.devRef .tc main_arg2) := by
  rw [rest_eq]; after_reads_simp

theorem atNoise_arg0 (c : Dev nD) : atNoise m c (Proc.devRef .tc main_arg0) = m ((c : Thread nD τ).loc main_arg0) := by
  exact (rest_arg0 (atNoise m c)).symm.trans ((congrFun (V0_eq m c) _).symm.trans (V_main_arg0 m c))

theorem atNoise_arg2 (c : Dev nD) : atNoise m c (Proc.devRef .tc main_arg2) = m ((c : Thread nD τ).loc main_arg2) := by
  exact (rest_arg2 (atNoise m c)).symm.trans ((congrFun (V0_eq m c) _).symm.trans (V_main_arg2 m c))

theorem V_v12 (c : Dev nD) : (V m c main_call0_v12 : FVec Ideal S1024x8 .f32)
    = transpose S1024x8 [1, 0] (m ((c : Thread nD τ).loc main_arg0) : FVec Ideal S8x1024 .f32) transposes_S8x1024_S1024x8_1_0 := by
  unfold V
  rw [V0_eq, ← atNoise_arg0 m c]
  exact rest_v12 _

theorem V_v11 (c : Dev nD) : (V m c main_call0_v11 : FVec Ideal S100000x8 .f32)
    = addf (F := Ideal) (s := S100000x8) (φ := .f32) (transpose S100000x8 [1, 0] (noise m c) transposes_S8x100000_S100000x8_1_0)
        (broadcastInDim S100000x8 ![0, 1] bcast_S100000x1_S100000x8_0_1
          (broadcastInDim S100000x1 ![0] bcast_S100000_S100000x1_0 (m ((c : Thread nD τ).loc main_arg2) : FVec Ideal S100000 .f32))) := by
  unfold V noise
  rw [V0_eq, ← atNoise_arg2 m c]
  exact rest_v11 _

end Cert.Proof.Host

end
-- ==== Proof.KernelValue.lean ====
/- What the kernel's region leaves in its second output: for each row of the state the first row of the weights whose score is largest. -/
module

public import proofs.«01_k».proof.Proof.Block
public import proofs.«01_k».proof.Proof.Blocks
public import proofs.«01_k».proof.Proof.Host

@[expose] public section

set_option maxRecDepth 16384

noncomputable section

namespace Cert.Proof.KernelValue

open Idealize.ShloMosaic Idealize.ShloMosaic.TcCoe
open Cert.KernelIdeal Cert.KernelIdeal.Gen

/-- The score of row `r` of the weights for row `j` of the state: their product plus noise plus bias. -/
def scoreOf (S : FVec Ideal S8x1024 .f32) (W : FVec Ideal S100000x1024 .f32) (b : FVec Ideal S100000 .f32) (G : FVec Ideal S8x100000 .f32)
    (j : Fin 8) (r : ℕ) : EReal :=
  if h : r < 100000 then (∑ k : Fin 1024, W (ix2 ⟨r, h⟩ k) * S (ix2 j k)) + (G (ix2 j ⟨r, h⟩) + b (ix1 ⟨r, h⟩)) else ⊥

/-- The state turned, read at an index. -/
theorem turned_at (S : FVec Ideal S8x1024 .f32) (k : Fin 1024) (j : Fin 8) :
    transpose S1024x8 [1, 0] S transposes_S8x1024_S1024x8_1_0 (ix2 k j) = S (ix2 j k) := by
  pointwise

/-- The noise turned plus the bias along each row, read at an index. -/
theorem shift_at (G : FVec Ideal S8x100000 .f32) (b : FVec Ideal S100000 .f32) (r : Fin 100000) (j : Fin 8) :
    addf (F := Ideal) (s := S100000x8) (φ := .f32) (transpose S100000x8 [1, 0] G transposes_S8x100000_S100000x8_1_0)
      (broadcastInDim S100000x8 ![0, 1] bcast_S100000x1_S100000x8_0_1
        (broadcastInDim S100000x1 ![0] bcast_S100000_S100000x1_0 b)) (ix2 r j) = (G (ix2 j r) + b (ix1 r) : EReal) := by
  pointwise

variable (m : (ℓ : Loc nD τ sig) → Buf (Elt Ideal) ℓ) (c : Dev nD)

/-- The scores of the run from `m` on device `c`. -/
def score (j : Fin 8) (r : ℕ) : EReal :=
  scoreOf (m ((c : Thread nD τ).loc main_arg0)) (m ((c : Thread nD τ).loc main_arg1)) (m ((c : Thread nD τ).loc main_arg2)) (Host.noise m c) j r

/-- What a grid point computes from its blocks are the scores of its 2000 rows. -/
theorem point_score (t : Fin cfg0.N) (p : Fin 2000) (j : Fin 8) :
    k0_pay1 (F := Ideal) (iblk m c 0 t) (iblk m c 1 t) (iblk m c 2 t) (ix2 p j) = score m c j (2000 * t.val + p.val) := by
  have ht : t.val < 50 := lt_of_lt_of_eq t.isLt N_0
  have h : 2000 * t.val + p.val < 100000 := by have := p.isLt; omega
  have hz := (Blocks.shift_at m c t p j h).trans ((congrFun (Host.V_v11 m c) _).trans (shift_at _ _ ⟨_, h⟩ j))
  have hs : ∀ k : Fin 1024, (iblk m c 1 t : Vec Ideal S1024x8 .f32) (ix2 k j) = (m ((c : Thread nD τ).loc main_arg0) : FVec Ideal S8x1024 .f32) (ix2 j k) := fun k =>
    (Blocks.state_at m c t k j).trans ((congrFun (Host.V_v12 m c) _).trans (turned_at _ k j))
  have hw : ∀ k : Fin 1024, (iblk m c 0 t : Vec Ideal S2000x1024 .f32) (ix2 p k)
      = (m ((c : Thread nD τ).loc main_arg1) : FVec Ideal S100000x1024 .f32) (ix2 ⟨2000 * t.val + p.val, h⟩ k) := fun k =>
    (Blocks.weights_at m c t p k h).trans (congrFun (V_main_arg1 m c) _)
  have hsum := Finset.sum_congr (rfl : (Finset.univ : Finset (Fin 1024)) = Finset.univ) fun k _ => congrArg₂ (HMul.hMul (α := EReal) (β := EReal)) (hw k) (hs k)
  exact (Block.score_at _ _ _ p j).trans ((congrArg₂ (HAdd.hAdd (α := EReal) (β := EReal)) hsum hz).trans
    (dif_pos h : scoreOf _ _ _ (Host.noise m c) j (2000 * t.val + p.val) = _).symm)

/-- The coordinate of a point is its number. -/
theorem coords_at : ∀ t : Fin cfg0.N, (grid0.coords t 0).val = t.val := by decide +kernel

/-- After point `n` the outputs hold the largest of the first `2000 (n + 1)` scores and the first row having it. -/
theorem after_point (j : Fin 8) : ∀ (n : ℕ) (hn : n < cfg0.N), ∃ r, IsFirst (score m c j) (2000 * (n + 1)) r
    ∧ (outsAt0 m c n hn).1 (ix2 0 j) = score m c j r ∧ (outsAt0 m c n hn).2 (ix2 0 j) = BitVec.ofNat 32 r
  | 0, hn => by
    obtain ⟨r, h1, h2, h3⟩ := Block.first (iblk m c 0 ⟨0, hn⟩) (iblk m c 1 ⟨0, hn⟩) (iblk m c 2 ⟨0, hn⟩) j (score m c j) fun p => by
      rw [point_score]; simp
    have he := Blocks.first_point m c ⟨0, hn⟩ rfl (by simp)
    dsimp only at he
    rw [he]
    exact ⟨r, by simpa using h1, h2, h3⟩
  | n + 1, hn => by
    have hN : n + 1 < 50 := lt_of_lt_of_eq hn N_0
    obtain ⟨r, h1, h2, h3⟩ := after_point j n (by omega)
    obtain ⟨a, k1, k2, k3⟩ := Block.first (iblk m c 0 ⟨n + 1, hn⟩) (iblk m c 1 ⟨n + 1, hn⟩) (iblk m c 2 ⟨n + 1, hn⟩) j
      (fun p => score m c j (2000 * (n + 1) + p)) fun p => by rw [point_score]
    have he := Blocks.later_point m c ⟨n + 1, hn⟩ (by dsimp only; omega) (by simp)
    dsimp only at he
    rw [he]
    dsimp only
    rw [Block.merge_max_at, Block.merge_arg_at, k2, k3]
    simp only [Nat.add_sub_cancel]
    rw [h2, h3]
    have hsz : 2000 * (n + 1 + 1) = 2000 * (n + 1) + 2000 := by ring
    rw [hsz]
    by_cases hlt : score m c j r < score m c j (2000 * (n + 1) + a)
    · refine ⟨2000 * (n + 1) + a, h1.merge_new k1 hlt, max_eq_left hlt.le, ?_⟩
      rw [if_pos hlt]
      have hi : ((grid0.coords ⟨n + 1, hn⟩) 0).val = n + 1 := coords_at ⟨n + 1, hn⟩
      rw [hi]
      apply BitVec.eq_of_toNat_eq
      simp only [BitVec.toNat_add, BitVec.toNat_mul, BitVec.toNat_ofNat]
      have := k1.1
      omega
    · exact ⟨r, h1.merge_old k1 hlt, max_eq_right (not_lt.1 hlt), by rw [if_neg hlt]⟩

end Cert.Proof.KernelValue

end
-- ==== Proof.KernelRun.lean ====
/- What a run of the idealized kernel ends with in its result. -/
module

public import proofs.«01_k».proof.Proof.KernelValue

@[expose] public section

set_option maxRecDepth 16384

noncomputable section

namespace Cert.Proof.KernelRun

open Idealize.ShloMosaic Idealize.ShloMosaic.TcCoe Idealize.ShloMosaic.StableHlo Idealize.SL.Sem
open Cert.KernelIdeal Cert.KernelIdeal.Gen

/-- The operation after the region lays the region's second output out as a column. -/
theorem column_at (X : Valuation τ sig (Elt Ideal)) (j : Fin 8) :
    (after [hostOps1 (F := Ideal)].flatten X (Proc.devRef .tc main_v0) : IVec S8x1 32) (ix2 j 0)
      = (X (Proc.devRef .tc main_call0_v13_1) : IVec S1x8 32) (ix2 0 j) := by
  unfold hostOps1
  after_reads_simp
  pointwise

variable (m : (ℓ : Loc nD τ sig) → Buf (Elt Ideal) ℓ) (c : Dev nD)

/-- The region's second output ends as the last point left it. -/
theorem second_output : ((dats m 0 c).arrAt 4 cfg0.N : IVec S1x8 32) = (outsAt0 m c 49 (by decide)).2 := by
  refine Pipeline.Dat.arrAt_eq_of_after_last (dats m 0 c) 4 ⟨49, by decide⟩ (by decide +kernel) _ fun j => ?_
  blk_simp
  exact congrFun (after0_4 m c ⟨49, by decide⟩) j

/-- The result. -/
def result : IVec S8x1 32 := fun i => (outsAt0 m c 49 (by decide)).2 (ix2 0 (i 0))

theorem tail_result : (Pipeline.afterTail₀ cfgs (dats m) 0 (V0 m) [hostOps1] c main_v0 : IVec S8x1 32) = result m c := by
  funext i
  obtain ⟨j, z, rfl⟩ : ∃ (j : Fin 8) (z : Fin 1), i = ix2 j z := ⟨i 0, i 1, eq_ix2 i⟩
  obtain rfl : z = 0 := Subsingleton.elim _ _
  unfold Pipeline.afterTail₀
  refine (column_at _ j).trans ?_
  have h := Pipeline.withArrays_arr (cfgs 0).spec (by decide) c (V0 m c) (fun w => (dats m 0 c).arrAt w cfg0.N) 4
  exact congrFun (h.trans (second_output m c)) (ix2 0 j)

/-- For each row of the state the result is the first row of the weights whose score is largest. -/
theorem result_first (j : Fin 8) : ∃ r, IsFirst (KernelValue.score m c j) 100000 r ∧ result m c (ix2 j 0) = BitVec.ofNat 32 r := by
  obtain ⟨r, h, -, h'⟩ := KernelValue.after_point m c j 49 (by decide)
  exact ⟨r, h, h'⟩

/-- Every run ends with the result and with the arguments as they were. -/
theorem run (ρ : Dev nD → PrngReg) : θ_run defs (onTc (main (F := Ideal))) ⟨m, fun _ => 0, ρ⟩ fun r => ∀ c : Dev nD,
    r.2.mem ((c.tc : Thread nD τ).loc main_v0) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨((h.1 c).2 main_v0 (Pipeline.mem_restRefs_of main_v0 (by decide) (by decide))).trans (tail_result m c), h.2 c⟩)
    (θ_run_and (run_main m ρ) (unchanged m ρ))

end Cert.Proof.KernelRun

end
-- ==== Proof.Finite.lean ====
/- The precondition says that every entry of the three arguments is a real number. -/
module

public import proofs.«01_k».proof.Pre_finite
public import Idealize.ShloMosaic.PureOps.Ideal
public import Idealize.ShloMosaic.Lib.ReduceAll
public import Idealize.ShloMosaic.Lib.Pointwise

@[expose] public section

noncomputable section

namespace Cert.Proof.Finite

open Idealize.ShloMosaic

/-- The shapes the precondition reduces. -/
theorem facts : Cert.Pre_finite.Facts where
  bcast_S_S8x1024 := by decide
  reducesTo_S8x1024_S_d0_1 := by decide
  h_S_ := by decide
  bcast_S_S100000x1024 := by decide
  reducesTo_S100000x1024_S_d0_1 := by decide
  bcast_S_S100000 := by decide
  reducesTo_S100000_S_d0 := by decide

attribute [local instance] facts

open Cert.Pre_finite Cert.Pre_finite.Facts

/-- The word every size is compared with stands for the top. -/
theorem ofBits_inf : Ideal.ofBits FTy.f32 0x7F800000#32 = ⊤ := by
  unfold Ideal.ofBits
  dsimp only
  unfold Ideal.ieee
  dsimp only
  rw [if_pos (by decide), if_pos (by decide), if_neg (by decide)]

/-- A number whose size is below the top is real. -/
theorem real_of_lt (a : EReal) (h : Ideal.cmp .olt (max a (-a)) ⊤ = 1#1) : ∃ x : ℝ, a = (x : EReal) := by
  have hlt : max a (-a) < ⊤ := by
    by_contra hn
    simp [Ideal.cmp, hn] at h
  induction a with
  | bot => simp at hlt
  | coe x => exact ⟨x, rfl⟩
  | top => simp at hlt

instance : Subsingleton S_.Idx := ⟨fun a b => funext fun i => i.elim0⟩

theorem real_of_all (s : Shape) (x : FVec Ideal s .f32) (hb : S_.BroadcastsInDim s (![] : Fin 0 → Fin s.rank))
    {axes : List (Fin s.rank)} (hr : s.ReducesTo axes S_) (j : S_.Idx)
    (h : Host.reduce IntOp.andi (cmpf .olt (Host.absf x) (broadcastInDim s ![] hb (constant (F := Ideal) S_ .f32 0x7F800000#32)))
      (constantI S_ 1 1#1) hr h_S_ j = 1#1) (i : s.Idx) : ∃ r : ℝ, x i = (r : EReal) := by
  have hi := Host.reduce_andi_all _ _ _ _ _ h i
  refine real_of_lt (x i) ?_
  rw [← ofBits_inf]
  exact hi

theorem real (S : FVec Ideal S8x1024 .f32) (W : FVec Ideal S100000x1024 .f32) (b : FVec Ideal S100000 .f32)
    (h : Cert.Pre_finite.fn (F := Ideal) S W b = fun _ => 1#1) :
    (∀ i, ∃ r : ℝ, S i = (r : EReal)) ∧ (∀ i, ∃ r : ℝ, W i = (r : EReal)) ∧ ∀ i, ∃ r : ℝ, b i = (r : EReal) := by
  have hj := congrFun h (fun i => i.elim0)
  unfold Cert.Pre_finite.fn at hj
  have and_one : ∀ p q : BitVec 1, IntOp.andi p q = 1#1 → p = 1#1 ∧ q = 1#1 := by decide
  obtain ⟨h12, h3⟩ := and_one _ _ hj
  obtain ⟨h1, h2⟩ := and_one _ _ h12
  exact ⟨real_of_all _ S _ _ _ h1, real_of_all _ W _ _ _ h2, real_of_all _ b _ _ _ h3⟩

end Cert.Proof.Finite

end
-- ==== Proof.RefRead.lean ====
/- What the reference's line leaves in its result, over any contents before it: the arg max of the noise plus the logarithm of the softmax. -/
module

public import proofs.«01_k».proof.Proof.RefRun
public import Idealize.ShloMosaic.Lib.StableHlo.RunRead

@[expose] public section

set_option maxRecDepth 16384

noncomputable section

namespace Cert.Proof.Ref

open Idealize.ShloMosaic Idealize.ShloMosaic.StableHlo
open Cert.ReferenceIdeal Cert.ReferenceIdeal.Facts₀

/-- The scores. -/
def scores (S : FVec Ideal S8x1024 .f32) (W : FVec Ideal S100000x1024 .f32) (b : FVec Ideal S100000 .f32) : FVec Ideal S8x100000 .f32 :=
  addf (Host.dotGeneral dot_S8x1024_S1024x100000_S8x100000_1_0_0_1_n_n none S (transpose S1024x100000 [1, 0] W transposes_S100000x1024_S1024x100000_1_0))
    (broadcastInDim S8x100000 ![0, 1] bcast_S1x100000_S8x100000_0_1 (broadcastInDim S1x100000 ![1] bcast_S100000_S1x100000_1 b))

/-- The largest score of each row. -/
def top (x : FVec Ideal S8x100000 .f32) : FVec Ideal S8 .f32 :=
  maximumf (broadcastInDim S8 ![] bcast_S_S8 (constant (F := Ideal) S_ .f32 0xFF800000#32))
    (Host.reduce FloatOps.maximumf x (constant S_ .f32 0xFF800000#32) reducesTo_S8x100000_S8_d1 h_S_)

/-- One number for each row, along the row. -/
def along (v : FVec Ideal S8 .f32) : FVec Ideal S8x100000 .f32 :=
  broadcastInDim S8x100000 ![0, 1] bcast_S8x1_S8x100000_0_1 (broadcastInDim S8x1 ![0] bcast_S8_S8x1_0 v)

/-- The exponentials. -/
def exps (x : FVec Ideal S8x100000 .f32) : FVec Ideal S8x100000 .f32 := Host.exp (subf x (along (top x)))

/-- The softmax. -/
def softmax (x : FVec Ideal S8x100000 .f32) : FVec Ideal S8x100000 .f32 :=
  Host.divf (exps x) (along (Host.reduceAdd (exps x) (constant S_ .f32 0x00000000#32) reducesTo_S8x100000_S8_d1 h_S_))

/-- Each row's arg max, as a column. -/
def winners (s : FVec Ideal S8x100000 .f32) : IVec S8x1 32 :=
  broadcastInDim S8x1 ![0] bcast_S8_S8x1_0 fun j =>
    (Host.argReduce (F := Ideal) reducer_argmax_f32_i32 s (iotaInDim S8x100000 32 1) (constant S_ .f32 0xFF800000#32) (constantI S_ 32 0#32)
      reducesTo_S8x100000_S8_d1 h_S_ j).2

variable (X : Valuation τ sig (Elt Ideal))

theorem head_read : (after headOps X (Proc.devRef .tc main_v15) : FVec Ideal S8x100000 .f32)
    = softmax (scores (X (Proc.devRef .tc main_arg0)) (X (Proc.devRef .tc main_arg1)) (X (Proc.devRef .tc main_arg2))) := by
  unfold headOps
  after_reads_simp
  rfl

theorem log_read : (after logOps X (Proc.devRef .tc main_v23) : FVec Ideal S8x100000 .f32)
    = Host.log (F := Ideal) (s := S8x100000) (φ := .f32) (X (Proc.devRef .tc main_v15)) := by
  unfold logOps
  after_reads_simp

theorem sum_read : (after sumOps X (Proc.devRef .tc main_v25) : FVec Ideal S8x100000 .f32)
    = addf (F := Ideal) (s := S8x100000) (φ := .f32) (X (Proc.devRef .tc main_v24)) (X (Proc.devRef .tc main_v23)) := by
  unfold sumOps
  after_reads_simp

theorem last_read : (after ((argmaxLine (.of main_v25) main_call1).1 ++ lastOps) X (Proc.devRef .tc main_v27) : IVec S8x1 32)
    = winners (X (Proc.devRef .tc main_v25)) := by
  unfold argmaxLine lastOps
  dsimp only [List.cons_append, List.nil_append]
  after_reads_simp
  rfl

theorem from_read : (after fromNoise X (Proc.devRef .tc main_v27) : IVec S8x1 32)
    = winners (addf (F := Ideal) (s := S8x100000) (φ := .f32) (X (Proc.devRef .tc main_v24)) (X (Proc.devRef .tc main_v23))) := by
  unfold fromNoise
  rw [after_append, last_read, sum_read]

theorem v15_not_key : main_v15 ∉ (keyW (F := Ideal)).1 := by decide +kernel

theorem v23_not_noise : main_v23 ∉ (noiseW (F := Ideal) (.of main_v22) main_call0).1 := by decide +kernel

theorem to_read : (after toNoise X (Proc.devRef .tc main_v23) : FVec Ideal S8x100000 .f32)
    = Host.log (softmax (scores (X (Proc.devRef .tc main_arg0)) (X (Proc.devRef .tc main_arg1)) (X (Proc.devRef .tc main_arg2)))) := by
  unfold toNoise
  rw [after_append, after_append, after_append, (noiseW _ _).2.keeps v23_not_noise, log_read, keyW.2.keeps v15_not_key, head_read]

end Cert.Proof.Ref

end
-- ==== Proof.Winners.lean ====
/- The reference's arg max is the first place of the largest value of its row. -/
module

public import proofs.«01_k».proof.Proof.RefRead
public import proofs.«01_k».proof.Proof.First
public import proofs.«01_k».proof.Proof.Block
public import Idealize.ShloMosaic.Lib.Pointwise
public import Idealize.ShloMosaic.PureOps.Ideal.Laws

@[expose] public section

set_option maxRecDepth 16384

noncomputable section

namespace Cert.Proof.Ref

open Idealize.ShloMosaic
open Cert.ReferenceIdeal Cert.ReferenceIdeal.Facts₀

/-- The reference's reducer takes the better of two pairs. -/
theorem reducer_eq (a b : EReal × ℕ) (ha : a.2 < 2 ^ 31) (hb : b.2 < 2 ^ 31) :
    reducer_argmax_f32_i32 (F := Ideal) (a.1, BitVec.ofNat 32 a.2) (b.1, BitVec.ofNat 32 b.2)
      = ((better a b).1, BitVec.ofNat 32 (better a b).2) := by
  have hs := slt_ofNat ha hb
  have e1 : Ideal.cmp .une a.1 a.1 = 0#1 := by simp [Ideal.cmp]
  show (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1))
      (IntOp.andi (Ideal.cmp .oeq a.1 b.1) (BitVec.ofBool ((BitVec.ofNat 32 a.2).slt (BitVec.ofNat 32 b.2))))) (BitVec.ofNat 32 a.2) (BitVec.ofNat 32 b.2)) = _
  rw [e1, hs]
  unfold better Ideal.cmp
  by_cases h1 : b.1 < a.1 <;> by_cases h2 : a.1 = b.1 <;> by_cases h3 : a.2 < b.2 <;>
    simp [h1, h2, h3, Scalar.select, IntOp.ori, IntOp.andi]

/-- An index drops to `j` exactly when its row is `j`. -/
theorem drop_eq (i : S8x100000.Idx) (j : Fin 8) : (reducesTo_S8x100000_S8_d1).drop i = ix1 j ↔ i 0 = j := by
  have hv : ((reducesTo_S8x100000_S8_d1).drop i 0 : ℕ) = i 0 := Shape.ReducesTo.drop_apply_val_of_eq _ i 0 0
  constructor
  · intro h
    exact Fin.ext (hv.symm.trans (congrArg (fun q : S8.Idx => (q 0 : ℕ)) h))
  · intro h
    funext a
    obtain rfl : a = 0 := Subsingleton.elim (α := Fin 1) _ _
    exact Fin.ext (hv.trans (congrArg Fin.val h))

/-- The reduction along row `j` finds the first place of its largest value. -/
theorem reduce_first (s : FVec Ideal S8x100000 .f32) (j : Fin 8) (f : ℕ → EReal) (hf : ∀ r : Fin 100000, s (ix2 j r) = f r) :
    ∃ r, IsFirst f 100000 r ∧ (Host.reduce2 (reducer_argmax_f32_i32 (F := Ideal)) s (iotaInDim S8x100000 32 1) (constant S_ .f32 0xFF800000#32)
      (constantI S_ 32 0#32) reducesTo_S8x100000_S8_d1 h_S_ (ix1 j)).2 = BitVec.ofNat 32 r := by
  unfold Host.reduce2
  have h0 : (constant (F := Ideal) S_ .f32 0xFF800000#32 : S_.Idx → EReal) = fun _ => ⊥ := by
    funext i; exact Block.ofBits_negInf
  rw [h0]
  have hrow : ∀ n ∈ (List.finRange S8x100000.numel).filter fun n => (reducesTo_S8x100000_S8_d1).drop (S8x100000.rowMajor.symm n) = ix1 j,
      S8x100000.rowMajor.symm n = ix2 j ((S8x100000.rowMajor.symm n) 1) := by
    intro n hn
    have := (drop_eq _ j).1 (by simpa using (List.mem_filter.1 hn).2)
    rw [eq_ix2 (S8x100000.rowMajor.symm n), this]
    rfl
  refine foldl_first f 100000 (by norm_num) _ (fun n => ((S8x100000.rowMajor.symm n) 1).val) (fun n _ => ((S8x100000.rowMajor.symm n) 1).isLt) ?_ _ ?_
  · intro r hr
    refine ⟨S8x100000.rowMajor (ix2 j ⟨r, hr⟩), List.mem_filter.2 ⟨List.mem_finRange _, ?_⟩, ?_⟩
    · rw [Equiv.symm_apply_apply, decide_eq_true_eq, drop_eq]
      rfl
    · rw [Equiv.symm_apply_apply]
      rfl
  · intro n hn a ha
    have hs := (congrArg s (hrow n hn)).trans (hf _)
    have hlt : ((S8x100000.rowMajor.symm n) 1).val < 100000 := ((S8x100000.rowMajor.symm n) 1).isLt
    rw [hs]
    exact reducer_eq a (f ((S8x100000.rowMajor.symm n) 1).val, ((S8x100000.rowMajor.symm n) 1).val) (by omega) (by dsimp only; omega)

theorem winners_at (s : FVec Ideal S8x100000 .f32) (j : Fin 8) (f : ℕ → EReal) (hf : ∀ r : Fin 100000, s (ix2 j r) = f r) :
    ∃ r, IsFirst f 100000 r ∧ winners s (ix2 j 0) = BitVec.ofNat 32 r := by
  obtain ⟨r, h, hr⟩ := reduce_first s j f hf
  refine ⟨r, h, ?_⟩
  rw [← hr, ← Ideal.argReduce_eq_reduce2]
  unfold winners
  generalize Host.argReduce (F := Ideal) reducer_argmax_f32_i32 s (iotaInDim S8x100000 32 1) (constant S_ .f32 0xFF800000#32)
    (constantI S_ 32 0#32) reducesTo_S8x100000_S8_d1 h_S_ = u
  pointwise

end Cert.Proof.Ref

end
-- ==== Proof.RefValue.lean ====
/- The reference's softmax read at an index. -/
module

public import proofs.«01_k».proof.Proof.RefRead
public import proofs.«01_k».proof.Proof.First
public import proofs.«01_k».proof.Proof.Block
public import Idealize.ShloMosaic.Lib.Pointwise
public import Idealize.ShloMosaic.PureOps.Ideal.Laws

@[expose] public section

set_option maxRecDepth 16384

noncomputable section

namespace Cert.Proof.Ref

open Idealize.ShloMosaic
open Cert.ReferenceIdeal Cert.ReferenceIdeal.Facts₀

/-- The scores at an index. -/
theorem scores_at (S : FVec Ideal S8x1024 .f32) (W : FVec Ideal S100000x1024 .f32) (b : FVec Ideal S100000 .f32) (j : Fin 8) (r : Fin 100000) :
    scores S W b (ix2 j r) = (∑ k : Fin 1024, S (ix2 j k) * W (ix2 r k)) + b (ix1 r) := by
  unfold scores
  pointwise

theorem along_at (v : FVec Ideal S8 .f32) (j : Fin 8) (r : Fin 100000) : along v (ix2 j r) = v (ix1 j) := by
  unfold along
  pointwise

theorem top_at (x : FVec Ideal S8x100000 .f32) (j : Fin 8) :
    top x (ix1 j) = max ⊥ (Finset.univ.fold max ⊥ fun r : Fin 100000 => x (ix2 j r)) := by
  unfold top
  pointwise
  rw [Block.ofBits_negInf]

theorem exps_at (x : FVec Ideal S8x100000 .f32) (j : Fin 8) (r : Fin 100000) :
    exps x (ix2 j r) = Ideal.exp (x (ix2 j r) - top x (ix1 j)) := by
  rw [← along_at (top x) j r]
  unfold exps
  generalize along (top x) = t
  pointwise

theorem softmax_at (x : FVec Ideal S8x100000 .f32) (j : Fin 8) (r : Fin 100000) :
    softmax x (ix2 j r) = Ideal.div (exps x (ix2 j r)) (∑ q : Fin 100000, exps x (ix2 j q)) := by
  have h : (Host.reduceAdd (exps x) (constant (F := Ideal) S_ .f32 0x00000000#32) reducesTo_S8x100000_S8_d1 h_S_ : FVec Ideal S8 .f32) (ix1 j)
      = ∑ q : Fin 100000, exps x (ix2 j q) := by
    generalize exps x = e
    pointwise
  rw [← h]
  unfold softmax
  generalize exps x = e
  generalize (Host.reduceAdd e (constant (F := Ideal) S_ .f32 0x00000000#32) reducesTo_S8x100000_S8_d1 h_S_ : FVec Ideal S8 .f32) = v
  rw [← along_at v j r]
  generalize along v = t
  pointwise

end Cert.Proof.Ref

end
-- ==== Proof.LogSoftmax.lean ====
/- Of a row of real scores the logarithm of the softmax is the score less a real number. -/
module

public import proofs.«01_k».proof.Proof.RefValue

@[expose] public section

noncomputable section

namespace Cert.Proof.Ref

open Idealize.ShloMosaic
open Cert.ReferenceIdeal

/-- The sum of real numbers, taken in the extended reals. -/
theorem sum_real {n : ℕ} (e : Fin n → ℝ) : (∑ r, (e r : EReal)) = ((∑ r, e r : ℝ) : EReal) := by
  classical
  refine Finset.induction_on Finset.univ (by simp) fun a s ha ih => ?_
  rw [Finset.sum_insert ha, Finset.sum_insert ha, ih, EReal.coe_add]

theorem log_softmax_at (x : FVec Ideal S8x100000 .f32) (j : Fin 8) (ξ : Fin 100000 → ℝ) (hx : ∀ r, x (ix2 j r) = (ξ r : EReal)) :
    ∃ c : ℝ, ∀ r : Fin 100000, Ideal.log (softmax x (ix2 j r)) = ((ξ r - c : ℝ) : EReal) := by
  obtain ⟨⟨p, hp⟩, -⟩ := fold_max_attained (by norm_num : 0 < 100000) fun r : Fin 100000 => x (ix2 j r)
  have htop : top x (ix1 j) = (ξ p : EReal) := by
    rw [top_at, ← hp, bot_sup_eq, hx]
  have he : ∀ r, exps x (ix2 j r) = ((Real.exp (ξ r - ξ p) : ℝ) : EReal) := fun r => by
    rw [exps_at, hx, htop, ← EReal.coe_sub, Ideal.exp_coe]
  have hpos : 0 < ∑ r, Real.exp (ξ r - ξ p) := Finset.sum_pos (fun r _ => Real.exp_pos _) ⟨p, Finset.mem_univ p⟩
  refine ⟨ξ p + Real.log (∑ r, Real.exp (ξ r - ξ p)), fun r => ?_⟩
  rw [softmax_at, he, Finset.sum_congr rfl fun q _ => he q, sum_real, Ideal.div_coe hpos.ne', ← EReal.coe_mul, Ideal.log_coe,
    if_neg (not_le.2 (mul_pos (Real.exp_pos _) (one_div_pos.2 hpos))), mul_one_div, Real.log_div (Real.exp_pos _).ne' hpos.ne', Real.log_exp,
    sub_sub]

end Cert.Proof.Ref

end
-- ==== Proof.Equation.lean ====
/- The equation: over real arguments the kernel's scores and the reference's differ by one real number along a row, so both are
   largest first at the same place. -/
module

public import proofs.«01_k».proof.Proof.KernelRun
public import proofs.«01_k».proof.Proof.Winners
public import proofs.«01_k».proof.Proof.LogSoftmax
public import proofs.«01_k».proof.Proof.Noise

@[expose] public section

set_option maxRecDepth 16384

noncomputable section

namespace Cert.Proof.Equation

open Idealize.ShloMosaic Idealize.ShloMosaic.StableHlo

/-- Adding a real number keeps the order. -/
theorem add_real_le (u v : EReal) (c : ℝ) : u + c ≤ v + c ↔ u ≤ v := by
  constructor
  · intro h
    have := EReal.sub_le_sub h (le_refl (c : EReal))
    rwa [EReal.add_sub_cancel_right, EReal.add_sub_cancel_right] at this
  · exact fun h => add_le_add_left h _

/-- The kernel's score is the noise plus the reference's score. -/
theorem score_real (S : FVec Ideal KernelIdeal.S8x1024 .f32) (W : FVec Ideal KernelIdeal.S100000x1024 .f32) (b : FVec Ideal KernelIdeal.S100000 .f32)
    (G : FVec Ideal KernelIdeal.S8x100000 .f32) (j : Fin 8) (r : Fin 100000) :
    KernelValue.scoreOf S W b G j r = (G (ix2 j r) + Ref.scores S W b (ix2 j r) : EReal) := by
  unfold KernelValue.scoreOf
  rw [dif_pos r.isLt, Ref.scores_at]
  have : (∑ k : Fin 1024, W (ix2 r k) * S (ix2 j k) : EReal) = ∑ k : Fin 1024, S (ix2 j k) * W (ix2 r k) :=
    Finset.sum_congr rfl fun k _ => mul_comm (G := EReal) _ _
  show (∑ k : Fin 1024, W (ix2 r k) * S (ix2 j k) : EReal) + (G (ix2 j r) + b (ix1 r)) = _
  rw [this]
  exact add_left_comm (G := EReal) _ _ _

/-- The reference's scores are real where the arguments are. -/
theorem scores_finite (S : FVec Ideal KernelIdeal.S8x1024 .f32) (W : FVec Ideal KernelIdeal.S100000x1024 .f32) (b : FVec Ideal KernelIdeal.S100000 .f32)
    (hS : ∀ i, ∃ r : ℝ, S i = (r : EReal)) (hW : ∀ i, ∃ r : ℝ, W i = (r : EReal)) (hb : ∀ i, ∃ r : ℝ, b i = (r : EReal))
    (j : Fin 8) (r : Fin 100000) : ∃ x : ℝ, Ref.scores S W b (ix2 j r) = (x : EReal) := by
  choose σ hσ using hS
  choose ω hω using hW
  choose β hβ using hb
  refine ⟨(∑ k : Fin 1024, σ (ix2 j k) * ω (ix2 r k)) + β (ix1 r), ?_⟩
  rw [Ref.scores_at, EReal.coe_add, ← Ref.sum_real, hβ]
  refine congrArg (· + (β (ix1 r) : EReal)) (Finset.sum_congr rfl fun k _ => ?_)
  rw [hσ, hω, EReal.coe_mul]

/-- The noise plus a score less a number is the sum less the number. -/
theorem add_less (g t : EReal) (x c : ℝ) (ht : t = ((x - c : ℝ) : EReal)) (u k : EReal) (hu : u = (x : EReal)) (hk : k = g + u) :
    g + t = k + ((-c : ℝ) : EReal) := by
  rw [ht, hk, hu, sub_eq_add_neg, EReal.coe_add, add_assoc]

/-- Both name the same row of the weights. -/
theorem same_place_of (s : FVec Ideal KernelIdeal.S8x100000 .f32) (f : ℕ → EReal) (c : ℝ) (j : Fin 8)
    (hs : ∀ p : Fin 100000, s (ix2 j p) = f p + ((-c : ℝ) : EReal)) (r : ℕ) (hr : IsFirst f 100000 r) :
    Ref.winners s (ix2 j 0) = BitVec.ofNat 32 r := by
  obtain ⟨r', h', he⟩ := Ref.winners_at s j (fun p => f p + ((-c : ℝ) : EReal)) hs
  have h'' := hr.of_order (g := fun p => f p + ((-c : ℝ) : EReal)) fun p _ q _ => (add_real_le _ _ _).symm
  exact he.trans (congrArg (BitVec.ofNat 32) (h'.unique h''))

/-- The sum of two arrays at a place. -/
theorem sum_at {s : Shape} (G y : FVec Ideal s .f32) (i : s.Idx) :
    addf (F := Ideal) (s := s) (φ := .f32) G (Host.log y) i = (G i + Ideal.log (y i) : EReal) := rfl

theorem same_place (S : FVec Ideal KernelIdeal.S8x1024 .f32) (W : FVec Ideal KernelIdeal.S100000x1024 .f32) (b : FVec Ideal KernelIdeal.S100000 .f32)
    (G : FVec Ideal KernelIdeal.S8x100000 .f32)
    (hS : ∀ i, ∃ r : ℝ, S i = (r : EReal)) (hW : ∀ i, ∃ r : ℝ, W i = (r : EReal)) (hb : ∀ i, ∃ r : ℝ, b i = (r : EReal))
    (j : Fin 8) (r : ℕ) (hr : IsFirst (KernelValue.scoreOf S W b G j) 100000 r) :
    Ref.winners (addf (F := Ideal) (s := ReferenceIdeal.S8x100000) (φ := .f32) G (Host.log (Ref.softmax (Ref.scores S W b)))) (ix2 j 0) = BitVec.ofNat 32 r := by
  choose ξ hξ using scores_finite S W b hS hW hb j
  obtain ⟨c, hc⟩ := Ref.log_softmax_at (Ref.scores S W b) j ξ hξ
  have hk := fun p => score_real S W b G j p
  have hsum := fun p : Fin 100000 => sum_at G (Ref.softmax (Ref.scores S W b)) (ix2 j p)
  exact same_place_of _ _ c j (fun p => (hsum p).trans (add_less _ _ _ _ (hc p) _ _ (hξ p) (hk p))) r hr

end Cert.Proof.Equation

end
-- ==== Proof.Agree.lean ====
/- The two runs end with the same result. -/
module

public import proofs.«01_k».proof.Defs
public import proofs.«01_k».proof.Proof.Equation
public import proofs.«01_k».proof.Proof.Finite

@[expose] public section

set_option maxRecDepth 16384

noncomputable section

namespace Cert.Proof.Agree

open Idealize.ShloMosaic Idealize.ShloMosaic.StableHlo Idealize.SL.Sem

attribute [local instance] Cert.Proof.Finite.facts

/-- The reference's result, from what the noise is made of and the scores. -/
theorem reference_read (X : Valuation ReferenceIdeal.τ ReferenceIdeal.sig (Elt Ideal))
    (S : FVec Ideal ReferenceIdeal.S8x1024 .f32) (W : FVec Ideal ReferenceIdeal.S100000x1024 .f32) (b : FVec Ideal ReferenceIdeal.S100000 .f32)
    (G : FVec Ideal ReferenceIdeal.S8x100000 .f32)
    (hS : (X (Proc.devRef .tc ReferenceIdeal.main_arg0) : FVec Ideal ReferenceIdeal.S8x1024 .f32) = S)
    (hW : (X (Proc.devRef .tc ReferenceIdeal.main_arg1) : FVec Ideal ReferenceIdeal.S100000x1024 .f32) = W)
    (hb : (X (Proc.devRef .tc ReferenceIdeal.main_arg2) : FVec Ideal ReferenceIdeal.S100000 .f32) = b)
    (hG : (after (Ref.toNoise (F := Ideal)) X (Proc.devRef .tc ReferenceIdeal.main_v24) : FVec Ideal ReferenceIdeal.S8x100000 .f32) = G) :
    (after (Ref.toNoise (F := Ideal) ++ Ref.fromNoise) X (Proc.devRef .tc ReferenceIdeal.main_v27) : IVec ReferenceIdeal.S8x1 32)
      = Ref.winners (addf (F := Ideal) (s := ReferenceIdeal.S8x100000) (φ := .f32) G (Host.log (Ref.softmax (Ref.scores S W b)))) := by
  rw [after_append, Ref.from_read, Ref.to_read, hS, hW, hb, hG]

variable (m : (ℓ : Loc KernelIdeal.nD KernelIdeal.τ KernelIdeal.sig) → Buf (Elt Ideal) ℓ) (c : Dev KernelIdeal.nD)

/-- The reference picks what the kernel picks. -/
theorem winners_eq_result
    (S : FVec Ideal KernelIdeal.S8x1024 .f32) (W : FVec Ideal KernelIdeal.S100000x1024 .f32) (b : FVec Ideal KernelIdeal.S100000 .f32)
    (G : FVec Ideal KernelIdeal.S8x100000 .f32) (v : IVec KernelIdeal.S8x1 32)
    (hv : ∀ j, ∃ r, IsFirst (KernelValue.scoreOf S W b G j) 100000 r ∧ v (ix2 j 0) = BitVec.ofNat 32 r)
    (hf : Cert.Pre_finite.fn (F := Ideal) S W b = fun _ => 1#1) :
    Ref.winners (addf (F := Ideal) (s := ReferenceIdeal.S8x100000) (φ := .f32) G (Host.log (Ref.softmax (Ref.scores S W b)))) = v := by
  obtain ⟨hS, hW, hb⟩ := Finite.real S W b hf
  funext i
  obtain ⟨j, z, rfl⟩ : ∃ (j : Fin 8) (z : Fin 1), i = ix2 j z := ⟨i 0, i 1, eq_ix2 i⟩
  obtain rfl : z = 0 := Subsingleton.elim _ _
  obtain ⟨r, hr, he⟩ := hv j
  exact (Equation.same_place S W b G hS hW hb j r hr).trans he.symm

/-- The reference's run ends with the kernel's result. -/
theorem reference_run (hf : Pre_KernelIdeal_finite m)
    (m' : (ℓ : Loc ReferenceIdeal.nD ReferenceIdeal.τ ReferenceIdeal.sig) → Buf (Elt Ideal) ℓ) (g' : Dev ReferenceIdeal.nD → PrngReg)
    (hm : ∀ c : Dev KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)) :
    θ_run (ReferenceIdeal.defs (F := Ideal)) (onTc (τ := ReferenceIdeal.τ) (ReferenceIdeal.main (F := Ideal))) ⟨m', fun _ => 0, g'⟩ fun r => ∀ c : Dev ReferenceIdeal.nD,
      r.2.mem ((c.tc : Thread ReferenceIdeal.nD ReferenceIdeal.τ).loc ReferenceIdeal.main_v27) = KernelRun.result m c
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1)
      ∧ r.2.mem ((c.tc : Thread ReferenceIdeal.nD ReferenceIdeal.τ).loc ReferenceIdeal.main_arg2) = m' ((c.tc : Thread ReferenceIdeal.nD ReferenceIdeal.τ).loc ReferenceIdeal.main_arg2) := by
  refine (θ_run ReferenceIdeal.defs _ _).mono (fun r h c => ⟨(h c _).trans ?_, (h c _).trans (Ref.arg0_kept m' c), (h c _).trans (Ref.arg1_kept m' c),
    (h c _).trans (Ref.arg2_kept m' c)⟩) (Ref.run m' g')
  have hG := (eq_of_heq (Noise.same (fun b => m (c, b)) (launchContents m' c))).symm
  have hread := reference_read (launchContents m' c) _ _ _ _ (hm c).1 (hm c).2.1 (hm c).2.2 hG
  exact hread.trans (winners_eq_result _ _ _ _ _ (KernelRun.result_first m c) (hf c))

end Cert.Proof.Agree

end
-- ==== Proof.lean ====
/- The claims, from the modules that prove them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KernelRun
public import proofs.«01_k».proof.Proof.Finite
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Proof.Finite.facts,
  fun m g _ => Cert.Kernel.Gen.frame m g,
  fun m g _ => Cert.KernelIdeal.Gen.frame m g, fun m g _ => Cert.KernelIdeal.Gen.frame m g,
  fun m g _ => Cert.Proof.Ref.frame m g, fun m g _ => Cert.Proof.Ref.frame m g,
  trivial,
  fun m g m' g' hf hm => ⟨Cert.Proof.KernelRun.result m, Cert.Proof.KernelRun.run m g, Cert.Proof.Agree.reference_run m hf m' g' hm⟩⟩

end Cert.Proof

end
